-- ==== Defs.lean ====
def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_and_labels_in_range [hPre_finite_and_labels_in_range : Cert.Pre_finite_and_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labels_in_range [hPre_finite_and_labels_in_range : Cert.Pre_finite_and_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_labels_in_range [hKernelIdeal : Cert.KernelIdeal.Facts] [hPre_finite_and_labels_in_range : Cert.Pre_finite_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labels_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_labels_in_range [hReferenceIdeal : Cert.ReferenceIdeal.Facts] [hPre_finite_and_labels_in_range : Cert.Pre_finite_and_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite_and_labels_in_range [hKernelIdeal : Cert.KernelIdeal.Facts] [hReferenceIdeal : Cert.ReferenceIdeal.Facts] [hPre_finite_and_labels_in_range : Cert.Pre_finite_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_labels_in_range : Cert.Pre_labels_in_range.Facts) (hPre_finite_and_labels_in_range : Cert.Pre_finite_and_labels_in_range.Facts),
    quiescent_KernelIdeal (hKernelIdeal := hKernelIdeal) (hPre_labels_in_range := hPre_labels_in_range)
    ∧ quiescent_KernelIdeal_pre_finite_and_labels_in_range (hKernelIdeal := hKernelIdeal) (hPre_finite_and_labels_in_range := hPre_finite_and_labels_in_range)
    ∧ quiescent_ReferenceIdeal (hReferenceIdeal := hReferenceIdeal)
    ∧ quiescent_ReferenceIdeal_pre_finite_and_labels_in_range (hReferenceIdeal := hReferenceIdeal) (hPre_finite_and_labels_in_range := hPre_finite_and_labels_in_range)
    ∧ algebraic_KernelIdeal_ReferenceIdeal_pre_finite_and_labels_in_range (hKernelIdeal := hKernelIdeal) (hReferenceIdeal := hReferenceIdeal) (hPre_finite_and_labels_in_range := hPre_finite_and_labels_in_range)
-- ==== Pre_finite_and_labels_in_range.lean ====
abbrev S4x19x512x512 : Shape := ⟨4, ![4, 19, 512, 512]⟩
abbrev S4x512x512 : Shape := ⟨3, ![4, 512, 512]⟩
abbrev S_ : Shape := ⟨0, ![]⟩

class Facts : Prop where
  bcast_S_S4x19x512x512 : S_.BroadcastsInDim S4x19x512x512 (![] : Fin 0 → Fin S4x19x512x512.rank)
  reducesTo_S4x19x512x512_S_d0_1_2_3 : S4x19x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x19x512x512 .f32) (main_arg1 : IVec S4x512x512 32) : IVec S_ 1 :=
  let main_v0 : FVec F S4x19x512x512 .f32 := Host.absf main_arg0
  let main_cst : FVec F S_ .f32 := constant S_ .f32 0x7F800000#32
  let main_v1 : FVec F S4x19x512x512 .f32 := broadcastInDim S4x19x512x512 ![] bcast_S_S4x19x512x512 main_cst
  let main_v2 : IVec S4x19x512x512 1 := cmpf .olt main_v0 main_v1
  let main_c : IVec S_ 1 := constantI S_ 1 1#1
  let main_v3 : IVec S_ 1 := (fun x v => Host.reduce IntOp.andi x v reducesTo_S4x19x512x512_S_d0_1_2_3 h_S_) main_v2 main_c
  let main_c_0 : IVec S_ 32 := constantI S_ 32 0#32
  let main_v4 : IVec S4x512x512 32 := broadcastInDim S4x512x512 ![] bcast_S_S4x512x512 main_c_0
  let main_v5 : IVec S4x512x512 1 := cmpi .sge main_arg1 main_v4
  let main_c_1 : IVec S_ 32 := constantI S_ 32 19#32
  let main_v6 : IVec S4x512x512 32 := broadcastInDim S4x512x512 ![] bcast_S_S4x512x512 main_c_1
  let main_v7 : IVec S4x512x512 1 := cmpi .slt main_arg1 main_v6
  let main_v8 : IVec S4x512x512 1 := andi main_v5 main_v7
  let main_c_2 : IVec S_ 1 := constantI S_ 1 1#1
  let main_v9 : IVec S_ 1 := (fun x v => Host.reduce IntOp.andi x v reducesTo_S4x512x512_S_d0_1_2 h_S_) main_v8 main_c_2
  let main_v10 : IVec S_ 1 := andi main_v3 main_v9
  main_v10
-- ==== Pre_labels_in_range.lean ====
abbrev S4x19x512x512 : Shape := ⟨4, ![4, 19, 512, 512]⟩
abbrev S4x512x512 : Shape := ⟨3, ![4, 512, 512]⟩
abbrev S_ : Shape := ⟨0, ![]⟩

class Facts : Prop where
  bcast_S_S4x512x512 : S_.BroadcastsInDim S4x512x512 (![] : Fin 0 → Fin S4x512x512.rank)

variable [Facts]

def fn {F : FTy → Type} [FloatOps F] (main_arg0 : FVec F S4x19x512x512 .f32) (main_arg1 : IVec S4x512x512 32) : IVec S4x512x512 1 :=
  let main_c : IVec S_ 32 := constantI S_ 32 0#32
  let main_v0 : IVec S4x512x512 32 := broadcastInDim S4x512x512 ![] bcast_S_S4x512x512 main_c
  let main_v1 : IVec S4x512x512 1 := cmpi .sge main_arg1 main_v0
  let main_c_0 : IVec S_ 32 := constantI S_ 32 19#32
  let main_v2 : IVec S4x512x512 32 := broadcastInDim S4x512x512 ![] bcast_S_S4x512x512 main_c_0
  let main_v3 : IVec S4x512x512 1 := cmpi .slt main_arg1 main_v2
  let main_v4 : IVec S4x512x512 1 := andi main_v1 main_v3
  main_v4
-- ==== KernelIdeal.lean ====
abbrev S4x19x512x512 : Shape := ⟨4, ![4, 19, 512, 512]⟩
abbrev S4x512x512 : Shape := ⟨3, ![4, 512, 512]⟩
abbrev S4x19x262144 : Shape := ⟨3, ![4, 19, 262144]⟩
abbrev S4x262144 : Shape := ⟨2, ![4, 262144]⟩
abbrev S32x9728 : Shape := ⟨2, ![32, 9728]⟩
abbrev S19x2048 : Shape := ⟨2, ![19, 2048]⟩
abbrev S2048 : Shape := ⟨1, ![2048]⟩
abbrev S9728 : Shape := ⟨1, ![9728]⟩
abbrev S_ : Shape := ⟨0, ![]⟩
abbrev S16 : Shape := ⟨1, ![16]⟩
abbrev S1x19x2048 : Shape := ⟨3, ![1, 19, 2048]⟩
abbrev S1x2048 : Shape := ⟨2, ![1, 2048]⟩
abbrev S1x16 : Shape := ⟨2, ![1, 16]⟩
abbrev S1x9728 : Shape := ⟨2, ![1, 9728]⟩
abbrev S1216x256 : Shape := ⟨2, ![1216, 256]⟩
abbrev S1x1 : Shape := ⟨2, ![1, 1]⟩
abbrev S4x8x38x256 : Shape := ⟨4, ![4, 8, 38, 256]⟩
abbrev S4x38x256 : Shape := ⟨3, ![4, 38, 256]⟩
abbrev S4x19x256 : Shape := ⟨3, ![4, 19, 256]⟩
abbrev S76x256 : Shape := ⟨2, ![76, 256]⟩
abbrev S256x256 : Shape := ⟨2, ![256, 256]⟩
abbrev S76x1 : Shape := ⟨2, ![76, 1]⟩
abbrev S76 : Shape := ⟨1, ![76]⟩
abbrev S4x76 : Shape := ⟨2, ![4, 76]⟩
abbrev S4x1 : Shape := ⟨2, ![4, 1]⟩
abbrev S1x4x1 : Shape := ⟨3, ![1, 4, 1]⟩
abbrev S1 : Shape := ⟨1, ![1]⟩
abbrev S1x1x1 : Shape := ⟨3, ![1, 1, 1]⟩

abbrev nBuf : Table → Nat
  | .hbm => 8
  | .local .tc .vmem => 2
  | .local .scVector .vmem => 5
  | _ => 0

abbrev bufTy : (tb : Table) → Fin (nBuf tb) → BufTy
  | .hbm, ⟨0, _⟩ => ⟨S4x19x512x512, .f32⟩
  | .hbm, ⟨1, _⟩ => ⟨S4x512x512, .i32⟩
  | .hbm, ⟨2, _⟩ => ⟨S4x19x262144, .f32⟩
  | .hbm, ⟨3, _⟩ => ⟨S4x262144, .i32⟩
  | .hbm, ⟨4, _⟩ => ⟨S32x9728, .f32⟩
  | .hbm, ⟨5, _⟩ => ⟨S1216x256, .f32⟩
  | .hbm, ⟨6, _⟩ => ⟨S1x1, .f32⟩
  | .hbm, ⟨7, _⟩ => ⟨S_, .f32⟩
  | .local .tc .vmem, ⟨0, _⟩ => ⟨S1216x256, .f32⟩
  | .local .tc .vmem, ⟨1, _⟩ => ⟨S1x1, .f32⟩
  | .local .scVector .vmem, ⟨0, _⟩ => ⟨S19x2048, .f32⟩
  | .local .scVector .vmem, ⟨1, _⟩ => ⟨S19x2048, .f32⟩
  | .local .scVector .vmem, ⟨2, _⟩ => ⟨S2048, .i32⟩
  | .local .scVector .vmem, ⟨3, _⟩ => ⟨S2048, .i32⟩
  | .local .scVector .vmem, ⟨4, _⟩ => ⟨S9728, .f32⟩
  | _, _ => ⟨S4x19x512x512, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_10 : BitVec 32 := 0#32
  let c608_i32 : BitVec 32 := 608#32
  let v30 : BitVec 32 := Scalar.addi c0_i32_10 c608_i32
  let c1_i32_11 : BitVec 32 := 1#32
  ⟨c0_i32_10, v30, c1_i32_11⟩
def k0_off1 (k0_t1 : Fin k0_t1_loop.trips) : Fin 1 → Nat :=
  let c0_i32_10 : BitVec 32 := 0#32
  let c1_i32_11 : BitVec 32 := 1#32
  let arg14 : BitVec 32 := Scf.iv c0_i32_10 c1_i32_11 k0_t1
  let c16_i32 : BitVec 32 := 16#32
  let v54 : BitVec 32 := Scalar.muli arg14 c16_i32
  let v55 : Index := Scalar.indexCast v54
  ![v55.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_15 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32768_i32 : BitVec 32 := 32768#32
  let v29 : BitVec 32 := Scalar.muli v28 c32768_i32
  let c0_i32_14 : BitVec 32 := 0#32
  let v35 : BitVec 32 := Scalar.addi v29 c0_i32_14
  ![v18.toNat, 0, v35.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32768_i32 : BitVec 32 := 32768#32
  let v29 : BitVec 32 := Scalar.muli v28 c32768_i32
  let c0_i32_14 : BitVec 32 := 0#32
  let v35 : BitVec 32 := Scalar.addi v29 c0_i32_14
  ![v18.toNat, v35.toNat]
@[reducible] def k0_t2_loop : Scf.Loop 32 :=
  let c0_i32_17 : BitVec 32 := 0#32
  let c8_i32_18 : BitVec 32 := 8#32
  let v44 : BitVec 32 := Scalar.addi c0_i32_17 c8_i32_18
  let c1_i32_19 : BitVec 32 := 1#32
  ⟨c0_i32_17, v44, c1_i32_19⟩
def k0_off4 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_29 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32768_i32 : BitVec 32 := 32768#32
  let v29 : BitVec 32 := Scalar.muli v28 c32768_i32
  let c2_i32_27 : BitVec 32 := 2#32
  let c0_i32_17 : BitVec 32 := 0#32
  let c1_i32_19 : BitVec 32 := 1#32
  let arg14 : BitVec 32 := Scf.iv c0_i32_17 c1_i32_19 k0_t2
  let v53 : BitVec 32 := Scalar.muli c2_i32_27 arg14
  let c1_i32_28 : BitVec 32 := 1#32
  let v54 : BitVec 32 := Scalar.addi v53 c1_i32_28
  let c2048_i32 : BitVec 32 := 2048#32
  let v55 : BitVec 32 := Scalar.muli v54 c2048_i32
  let v56 : BitVec 32 := Scalar.addi v29 v55
  ![v18.toNat, 0, v56.toNat]
def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32768_i32 : BitVec 32 := 32768#32
  let v29 : BitVec 32 := Scalar.muli v28 c32768_i32
  let c2_i32_27 : BitVec 32 := 2#32
  let c0_i32_17 : BitVec 32 := 0#32
  let c1_i32_19 : BitVec 32 := 1#32
  let arg14 : BitVec 32 := Scf.iv c0_i32_17 c1_i32_19 k0_t2
  let v53 : BitVec 32 := Scalar.muli c2_i32_27 arg14
  let c1_i32_28 : BitVec 32 := 1#32
  let v54 : BitVec 32 := Scalar.addi v53 c1_i32_28
  let c2048_i32 : BitVec 32 := 2048#32
  let v55 : BitVec 32 := Scalar.muli v54 c2048_i32
  let v56 : BitVec 32 := Scalar.addi v29 v55
  ![v18.toNat, v56.toNat]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_31 : BitVec 32 := 0#32
  let c0_i32_32 : BitVec 32 := 0#32
  ![v18.toNat, 0, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_35 : BitVec 32 := 0#32
  ![v18.toNat, 0]
@[reducible] def k0_t3_loop : Scf.Loop 32 :=
  let c0_i32_37 : BitVec 32 := 0#32
  let c128_i32 : BitVec 32 := 128#32
  let v73 : BitVec 32 := Scalar.addi c0_i32_37 c128_i32
  let c1_i32_38 : BitVec 32 := 1#32
  ⟨c0_i32_37, v73, c1_i32_38⟩
def k0_off8 (k0_t3 : Fin k0_t3_loop.trips) : Fin 1 → Nat :=
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v108 : Index := Scalar.indexCast v107
  ![v108.toNat]
def k0_off9 (k0_t3 : Fin k0_t3_loop.trips) : Fin 2 → Nat :=
  let c0_i32_63 : BitVec 32 := 0#32
  let v110 : Index := Scalar.indexCast c0_i32_63
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v111 : Index := Scalar.indexCast v107
  ![0, v111.toNat]
def k0_off10 (k0_t3 : Fin k0_t3_loop.trips) : Fin 2 → Nat :=
  let c1_i32_64 : BitVec 32 := 1#32
  let v114 : Index := Scalar.indexCast c1_i32_64
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v115 : Index := Scalar.indexCast v107
  ![1, v115.toNat]
def k0_off11 (k0_t3 : Fin k0_t3_loop.trips) : Fin 2 → Nat :=
  let c2_i32_65 : BitVec 32 := 2#32
  let v118 : Index := Scalar.indexCast c2_i32_65
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v119 : Index := Scalar.indexCast v107
  ![2, v119.toNat]
def k0_off12 (k0_t3 : Fin k0_t3_loop.trips) : Fin 2 → Nat :=
  let c3_i32 : BitVec 32 := 3#32
  let v122 : Index := Scalar.indexCast c3_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v123 : Index := Scalar.indexCast v107
  ![3, v123.toNat]
def k0_off13 (k0_t3 : Fin k0_t3_loop.trips) : Fin 2 → Nat :=
  let c4_i32 : BitVec 32 := 4#32
  let v126 : Index := Scalar.indexCast c4_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v127 : Index := Scalar.indexCast v107
  ![4, v127.toNat]
def k0_off14 (k0_t3 : Fin k0_t3_loop.trips) : Fin 2 → Nat :=
  let c5_i32 : BitVec 32 := 5#32
  let v130 : Index := Scalar.indexCast c5_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v131 : Index := Scalar.indexCast v107
  ![5, v131.toNat]
def k0_off15 (k0_t3 : Fin k0_t3_loop.trips) : Fin 2 → Nat :=
  let c6_i32 : BitVec 32 := 6#32
  let v134 : Index := Scalar.indexCast c6_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v135 : Index := Scalar.indexCast v107
  ![6, v135.toNat]
def k0_off16 (k0_t3 : Fin k0_t3_loop.trips) : Fin 2 → Nat :=
  let c7_i32 : BitVec 32 := 7#32
  let v138 : Index := Scalar.indexCast c7_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v139 : Index := Scalar.indexCast v107
  ![7, v139.toNat]
def k0_off17 (k0_t3 : Fin k0_t3_loop.trips) : Fin 2 → Nat :=
  let c8_i32_66 : BitVec 32 := 8#32
  let v142 : Index := Scalar.indexCast c8_i32_66
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v143 : Index := Scalar.indexCast v107
  ![8, v143.toNat]
def k0_off18 (k0_t3 : Fin k0_t3_loop.trips) : Fin 2 → Nat :=
  let c9_i32 : BitVec 32 := 9#32
  let v146 : Index := Scalar.indexCast c9_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v147 : Index := Scalar.indexCast v107
  ![9, v147.toNat]
def k0_off19 (k0_t3 : Fin k0_t3_loop.trips) : Fin 2 → Nat :=
  let c10_i32 : BitVec 32 := 10#32
  let v150 : Index := Scalar.indexCast c10_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v151 : Index := Scalar.indexCast v107
  ![10, v151.toNat]
def k0_off20 (k0_t3 : Fin k0_t3_loop.trips) : Fin 2 → Nat :=
  let c11_i32 : BitVec 32 := 11#32
  let v154 : Index := Scalar.indexCast c11_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v155 : Index := Scalar.indexCast v107
  ![11, v155.toNat]
def k0_off21 (k0_t3 : Fin k0_t3_loop.trips) : Fin 2 → Nat :=
  let c12_i32 : BitVec 32 := 12#32
  let v158 : Index := Scalar.indexCast c12_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v159 : Index := Scalar.indexCast v107
  ![12, v159.toNat]
def k0_off22 (k0_t3 : Fin k0_t3_loop.trips) : Fin 2 → Nat :=
  let c13_i32 : BitVec 32 := 13#32
  let v162 : Index := Scalar.indexCast c13_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v163 : Index := Scalar.indexCast v107
  ![13, v163.toNat]
def k0_off23 (k0_t3 : Fin k0_t3_loop.trips) : Fin 2 → Nat :=
  let c14_i32 : BitVec 32 := 14#32
  let v166 : Index := Scalar.indexCast c14_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v167 : Index := Scalar.indexCast v107
  ![14, v167.toNat]
def k0_off24 (k0_t3 : Fin k0_t3_loop.trips) : Fin 2 → Nat :=
  let c15_i32 : BitVec 32 := 15#32
  let v170 : Index := Scalar.indexCast c15_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v171 : Index := Scalar.indexCast v107
  ![15, v171.toNat]
def k0_off25 (k0_t3 : Fin k0_t3_loop.trips) : Fin 2 → Nat :=
  let c16_i32_67 : BitVec 32 := 16#32
  let v174 : Index := Scalar.indexCast c16_i32_67
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v175 : Index := Scalar.indexCast v107
  ![16, v175.toNat]
def k0_off26 (k0_t3 : Fin k0_t3_loop.trips) : Fin 2 → Nat :=
  let c17_i32 : BitVec 32 := 17#32
  let v178 : Index := Scalar.indexCast c17_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v179 : Index := Scalar.indexCast v107
  ![17, v179.toNat]
def k0_off27 (k0_t3 : Fin k0_t3_loop.trips) : Fin 2 → Nat :=
  let c18_i32 : BitVec 32 := 18#32
  let v182 : Index := Scalar.indexCast c18_i32
  let c0_i32_61 : BitVec 32 := 0#32
  let c0_i32_37 : BitVec 32 := 0#32
  let c1_i32_38 : BitVec 32 := 1#32
  let arg15 : BitVec 32 := Scf.iv c0_i32_37 c1_i32_38 k0_t3
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v183 : Index := Scalar.indexCast v107
  ![18, v183.toNat]

def k0_chk1 (v209 : IVec S16 32) : Prop :=
  (∀ a x, ((![v209] : Fin 1 → IVec S16 32) a x).toNat < S9728.size a)
theorem k0_idx1_inb : ∀ (v209 : IVec S16 32) (k0_hw1 : k0_chk1 v209), ∀ a x, ((![v209] : Fin 1 → IVec S16 32) a x).toNat < S9728.size a := fun v209 k0_hw1 => k0_hw1

def k0_chk2 (v213 : IVec S16 32) : Prop :=
  (∀ a x, ((![v213] : Fin 1 → IVec S16 32) a x).toNat < S9728.size a)
theorem k0_idx2_inb : ∀ (v213 : IVec S16 32) (k0_hw2 : k0_chk2 v213), ∀ a x, ((![v213] : Fin 1 → IVec S16 32) a x).toNat < S9728.size a := fun v213 k0_hw2 => k0_hw2

def k0_chk3 (v217 : IVec S16 32) : Prop :=
  (∀ a x, ((![v217] : Fin 1 → IVec S16 32) a x).toNat < S9728.size a)
theorem k0_idx3_inb : ∀ (v217 : IVec S16 32) (k0_hw3 : k0_chk3 v217), ∀ a x, ((![v217] : Fin 1 → IVec S16 32) a x).toNat < S9728.size a := fun v217 k0_hw3 => k0_hw3

def k0_chk4 (v221 : IVec S16 32) : Prop :=
  (∀ a x, ((![v221] : Fin 1 → IVec S16 32) a x).toNat < S9728.size a)
theorem k0_idx4_inb : ∀ (v221 : IVec S16 32) (k0_hw4 : k0_chk4 v221), ∀ a x, ((![v221] : Fin 1 → IVec S16 32) a x).toNat < S9728.size a := fun v221 k0_hw4 => k0_hw4

def k0_chk5 (v225 : IVec S16 32) : Prop :=
  (∀ a x, ((![v225] : Fin 1 → IVec S16 32) a x).toNat < S9728.size a)
theorem k0_idx5_inb : ∀ (v225 : IVec S16 32) (k0_hw5 : k0_chk5 v225), ∀ a x, ((![v225] : Fin 1 → IVec S16 32) a x).toNat < S9728.size a := fun v225 k0_hw5 => k0_hw5

def k0_chk6 (v229 : IVec S16 32) : Prop :=
  (∀ a x, ((![v229] : Fin 1 → IVec S16 32) a x).toNat < S9728.size a)
theorem k0_idx6_inb : ∀ (v229 : IVec S16 32) (k0_hw6 : k0_chk6 v229), ∀ a x, ((![v229] : Fin 1 → IVec S16 32) a x).toNat < S9728.size a := fun v229 k0_hw6 => k0_hw6

def k0_chk7 (v233 : IVec S16 32) : Prop :=
  (∀ a x, ((![v233] : Fin 1 → IVec S16 32) a x).toNat < S9728.size a)
theorem k0_idx7_inb : ∀ (v233 : IVec S16 32) (k0_hw7 : k0_chk7 v233), ∀ a x, ((![v233] : Fin 1 → IVec S16 32) a x).toNat < S9728.size a := fun v233 k0_hw7 => k0_hw7

def k0_chk8 (v237 : IVec S16 32) : Prop :=
  (∀ a x, ((![v237] : Fin 1 → IVec S16 32) a x).toNat < S9728.size a)
theorem k0_idx8_inb : ∀ (v237 : IVec S16 32) (k0_hw8 : k0_chk8 v237), ∀ a x, ((![v237] : Fin 1 → IVec S16 32) a x).toNat < S9728.size a := fun v237 k0_hw8 => k0_hw8

def k0_chk9 (v241 : IVec S16 32) : Prop :=
  (∀ a x, ((![v241] : Fin 1 → IVec S16 32) a x).toNat < S9728.size a)
theorem k0_idx9_inb : ∀ (v241 : IVec S16 32) (k0_hw9 : k0_chk9 v241), ∀ a x, ((![v241] : Fin 1 → IVec S16 32) a x).toNat < S9728.size a := fun v241 k0_hw9 => k0_hw9

def k0_chk10 (v245 : IVec S16 32) : Prop :=
  (∀ a x, ((![v245] : Fin 1 → IVec S16 32) a x).toNat < S9728.size a)
theorem k0_idx10_inb : ∀ (v245 : IVec S16 32) (k0_hw10 : k0_chk10 v245), ∀ a x, ((![v245] : Fin 1 → IVec S16 32) a x).toNat < S9728.size a := fun v245 k0_hw10 => k0_hw10

def k0_chk11 (v249 : IVec S16 32) : Prop :=
  (∀ a x, ((![v249] : Fin 1 → IVec S16 32) a x).toNat < S9728.size a)
theorem k0_idx11_inb : ∀ (v249 : IVec S16 32) (k0_hw11 : k0_chk11 v249), ∀ a x, ((![v249] : Fin 1 → IVec S16 32) a x).toNat < S9728.size a := fun v249 k0_hw11 => k0_hw11

def k0_chk12 (v253 : IVec S16 32) : Prop :=
  (∀ a x, ((![v253] : Fin 1 → IVec S16 32) a x).toNat < S9728.size a)
theorem k0_idx12_inb : ∀ (v253 : IVec S16 32) (k0_hw12 : k0_chk12 v253), ∀ a x, ((![v253] : Fin 1 → IVec S16 32) a x).toNat < S9728.size a := fun v253 k0_hw12 => k0_hw12

def k0_chk13 (v257 : IVec S16 32) : Prop :=
  (∀ a x, ((![v257] : Fin 1 → IVec S16 32) a x).toNat < S9728.size a)
theorem k0_idx13_inb : ∀ (v257 : IVec S16 32) (k0_hw13 : k0_chk13 v257), ∀ a x, ((![v257] : Fin 1 → IVec S16 32) a x).toNat < S9728.size a := fun v257 k0_hw13 => k0_hw13

def k0_chk14 (v261 : IVec S16 32) : Prop :=
  (∀ a x, ((![v261] : Fin 1 → IVec S16 32) a x).toNat < S9728.size a)
theorem k0_idx14_inb : ∀ (v261 : IVec S16 32) (k0_hw14 : k0_chk14 v261), ∀ a x, ((![v261] : Fin 1 → IVec S16 32) a x).toNat < S9728.size a := fun v261 k0_hw14 => k0_hw14

def k0_chk15 (v265 : IVec S16 32) : Prop :=
  (∀ a x, ((![v265] : Fin 1 → IVec S16 32) a x).toNat < S9728.size a)
theorem k0_idx15_inb : ∀ (v265 : IVec S16 32) (k0_hw15 : k0_chk15 v265), ∀ a x, ((![v265] : Fin 1 → IVec S16 32) a x).toNat < S9728.size a := fun v265 k0_hw15 => k0_hw15

def k0_chk16 (v269 : IVec S16 32) : Prop :=
  (∀ a x, ((![v269] : Fin 1 → IVec S16 32) a x).toNat < S9728.size a)
theorem k0_idx16_inb : ∀ (v269 : IVec S16 32) (k0_hw16 : k0_chk16 v269), ∀ a x, ((![v269] : Fin 1 → IVec S16 32) a x).toNat < S9728.size a := fun v269 k0_hw16 => k0_hw16

def k0_chk17 (v273 : IVec S16 32) : Prop :=
  (∀ a x, ((![v273] : Fin 1 → IVec S16 32) a x).toNat < S9728.size a)
theorem k0_idx17_inb : ∀ (v273 : IVec S16 32) (k0_hw17 : k0_chk17 v273), ∀ a x, ((![v273] : Fin 1 → IVec S16 32) a x).toNat < S9728.size a := fun v273 k0_hw17 => k0_hw17

def k0_chk18 (v277 : IVec S16 32) : Prop :=
  (∀ a x, ((![v277] : Fin 1 → IVec S16 32) a x).toNat < S9728.size a)
theorem k0_idx18_inb : ∀ (v277 : IVec S16 32) (k0_hw18 : k0_chk18 v277), ∀ a x, ((![v277] : Fin 1 → IVec S16 32) a x).toNat < S9728.size a := fun v277 k0_hw18 => k0_hw18

def k0_chk19 (v281 : IVec S16 32) : Prop :=
  (∀ a x, ((![v281] : Fin 1 → IVec S16 32) a x).toNat < S9728.size a)
theorem k0_idx19_inb : ∀ (v281 : IVec S16 32) (k0_hw19 : k0_chk19 v281), ∀ a x, ((![v281] : Fin 1 → IVec S16 32) a x).toNat < S9728.size a := fun v281 k0_hw19 => k0_hw19

def k0_chk20 (v109 : IVec S16 32) (v283 : IVec S16 32) : Prop :=
  (∀ a x, ((![v109, v283] : Fin 2 → IVec S16 32) a x).toNat < S19x2048.size a)
theorem k0_idx20_inb : ∀ (v109 : IVec S16 32) (v283 : IVec S16 32) (k0_hw20 : k0_chk20 v109 v283), ∀ a x, ((![v109, v283] : Fin 2 → IVec S16 32) a x).toNat < S19x2048.size a := fun v109 v283 k0_hw20 => k0_hw20

def k0_chk21 (v296 : IVec S16 32) : Prop :=
  (∀ a x, ((![v296] : Fin 1 → IVec S16 32) a x).toNat < S9728.size a)
theorem k0_idx21_inb : ∀ (v296 : IVec S16 32) (k0_hw21 : k0_chk21 v296), ∀ a x, ((![v296] : Fin 1 → IVec S16 32) a x).toNat < S9728.size a := fun v296 k0_hw21 => k0_hw21

def k0_chk22 (v297 : IVec S16 32) : Prop :=
  (∀ a x, ((![v297] : Fin 1 → IVec S16 32) a x).toNat < S9728.size a)
theorem k0_idx22_inb : ∀ (v297 : IVec S16 32) (k0_hw22 : k0_chk22 v297), ∀ a x, ((![v297] : Fin 1 → IVec S16 32) a x).toNat < S9728.size a := fun v297 k0_hw22 => k0_hw22
def k0_off28 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_48 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32768_i32 : BitVec 32 := 32768#32
  let v29 : BitVec 32 := Scalar.muli v28 c32768_i32
  let c2_i32_40 : BitVec 32 := 2#32
  let c0_i32_17 : BitVec 32 := 0#32
  let c1_i32_19 : BitVec 32 := 1#32
  let arg14 : BitVec 32 := Scf.iv c0_i32_17 c1_i32_19 k0_t2
  let v74 : BitVec 32 := Scalar.muli c2_i32_40 arg14
  let c2_i32_41 : BitVec 32 := 2#32
  let v75 : BitVec 32 := Scalar.addi v74 c2_i32_41
  let c16_i32 : BitVec 32 := 16#32
  let c0_i32_42 : BitVec 32 := 0#32
  let v76 : BitVec 1 := Scalar.cmpi .eq c16_i32 c0_i32_42
  let c1_i32_43 : BitVec 32 := 1#32
  let v77 : BitVec 32 := Scalar.select v76 c1_i32_43 c16_i32
  let v78 : BitVec 32 := Scalar.remsi v75 v77
  let c0_i32_45 : BitVec 32 := 0#32
  let v80 : BitVec 1 := Scalar.cmpi .slt v78 c0_i32_45
  let c0_i32_46 : BitVec 32 := 0#32
  let v81 : BitVec 1 := Scalar.cmpi .slt v77 c0_i32_46
  let v82 : BitVec 1 := Scalar.xori v80 v81
  let c0_i32_44 : BitVec 32 := 0#32
  let v79 : BitVec 1 := Scalar.cmpi .ne v78 c0_i32_44
  let v83 : BitVec 1 := Scalar.andi v82 v79
  let v84 : BitVec 32 := Scalar.addi v78 v77
  let v85 : BitVec 32 := Scalar.select v83 v84 v78
  let c2048_i32_47 : BitVec 32 := 2048#32
  let v86 : BitVec 32 := Scalar.muli v85 c2048_i32_47
  let v87 : BitVec 32 := Scalar.addi v29 v86
  ![v18.toNat, 0, v87.toNat]
def k0_off29 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32768_i32 : BitVec 32 := 32768#32
  let v29 : BitVec 32 := Scalar.muli v28 c32768_i32
  let c2_i32_40 : BitVec 32 := 2#32
  let c0_i32_17 : BitVec 32 := 0#32
  let c1_i32_19 : BitVec 32 := 1#32
  let arg14 : BitVec 32 := Scf.iv c0_i32_17 c1_i32_19 k0_t2
  let v74 : BitVec 32 := Scalar.muli c2_i32_40 arg14
  let c2_i32_41 : BitVec 32 := 2#32
  let v75 : BitVec 32 := Scalar.addi v74 c2_i32_41
  let c16_i32 : BitVec 32 := 16#32
  let c0_i32_42 : BitVec 32 := 0#32
  let v76 : BitVec 1 := Scalar.cmpi .eq c16_i32 c0_i32_42
  let c1_i32_43 : BitVec 32 := 1#32
  let v77 : BitVec 32 := Scalar.select v76 c1_i32_43 c16_i32
  let v78 : BitVec 32 := Scalar.remsi v75 v77
  let c0_i32_45 : BitVec 32 := 0#32
  let v80 : BitVec 1 := Scalar.cmpi .slt v78 c0_i32_45
  let c0_i32_46 : BitVec 32 := 0#32
  let v81 : BitVec 1 := Scalar.cmpi .slt v77 c0_i32_46
  let v82 : BitVec 1 := Scalar.xori v80 v81
  let c0_i32_44 : BitVec 32 := 0#32
  let v79 : BitVec 1 := Scalar.cmpi .ne v78 c0_i32_44
  let v83 : BitVec 1 := Scalar.andi v82 v79
  let v84 : BitVec 32 := Scalar.addi v78 v77
  let v85 : BitVec 32 := Scalar.select v83 v84 v78
  let c2048_i32_47 : BitVec 32 := 2048#32
  let v86 : BitVec 32 := Scalar.muli v85 c2048_i32_47
  let v87 : BitVec 32 := Scalar.addi v29 v86
  ![v18.toNat, v87.toNat]
@[reducible] def k0_t4_loop : Scf.Loop 32 :=
  let c0_i32_56 : BitVec 32 := 0#32
  let c128_i32_57 : BitVec 32 := 128#32
  let v104 : BitVec 32 := Scalar.addi c0_i32_56 c128_i32_57
  let c1_i32_58 : BitVec 32 := 1#32
  ⟨c0_i32_56, v104, c1_i32_58⟩
def k0_off30 (k0_t4 : Fin k0_t4_loop.trips) : Fin 1 → Nat :=
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v108 : Index := Scalar.indexCast v107
  ![v108.toNat]
def k0_off31 (k0_t4 : Fin k0_t4_loop.trips) : Fin 2 → Nat :=
  let c0_i32_63 : BitVec 32 := 0#32
  let v110 : Index := Scalar.indexCast c0_i32_63
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v111 : Index := Scalar.indexCast v107
  ![0, v111.toNat]
def k0_off32 (k0_t4 : Fin k0_t4_loop.trips) : Fin 2 → Nat :=
  let c1_i32_64 : BitVec 32 := 1#32
  let v114 : Index := Scalar.indexCast c1_i32_64
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v115 : Index := Scalar.indexCast v107
  ![1, v115.toNat]
def k0_off33 (k0_t4 : Fin k0_t4_loop.trips) : Fin 2 → Nat :=
  let c2_i32_65 : BitVec 32 := 2#32
  let v118 : Index := Scalar.indexCast c2_i32_65
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v119 : Index := Scalar.indexCast v107
  ![2, v119.toNat]
def k0_off34 (k0_t4 : Fin k0_t4_loop.trips) : Fin 2 → Nat :=
  let c3_i32 : BitVec 32 := 3#32
  let v122 : Index := Scalar.indexCast c3_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v123 : Index := Scalar.indexCast v107
  ![3, v123.toNat]
def k0_off35 (k0_t4 : Fin k0_t4_loop.trips) : Fin 2 → Nat :=
  let c4_i32 : BitVec 32 := 4#32
  let v126 : Index := Scalar.indexCast c4_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v127 : Index := Scalar.indexCast v107
  ![4, v127.toNat]
def k0_off36 (k0_t4 : Fin k0_t4_loop.trips) : Fin 2 → Nat :=
  let c5_i32 : BitVec 32 := 5#32
  let v130 : Index := Scalar.indexCast c5_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v131 : Index := Scalar.indexCast v107
  ![5, v131.toNat]
def k0_off37 (k0_t4 : Fin k0_t4_loop.trips) : Fin 2 → Nat :=
  let c6_i32 : BitVec 32 := 6#32
  let v134 : Index := Scalar.indexCast c6_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v135 : Index := Scalar.indexCast v107
  ![6, v135.toNat]
def k0_off38 (k0_t4 : Fin k0_t4_loop.trips) : Fin 2 → Nat :=
  let c7_i32 : BitVec 32 := 7#32
  let v138 : Index := Scalar.indexCast c7_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v139 : Index := Scalar.indexCast v107
  ![7, v139.toNat]
def k0_off39 (k0_t4 : Fin k0_t4_loop.trips) : Fin 2 → Nat :=
  let c8_i32_66 : BitVec 32 := 8#32
  let v142 : Index := Scalar.indexCast c8_i32_66
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v143 : Index := Scalar.indexCast v107
  ![8, v143.toNat]
def k0_off40 (k0_t4 : Fin k0_t4_loop.trips) : Fin 2 → Nat :=
  let c9_i32 : BitVec 32 := 9#32
  let v146 : Index := Scalar.indexCast c9_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v147 : Index := Scalar.indexCast v107
  ![9, v147.toNat]
def k0_off41 (k0_t4 : Fin k0_t4_loop.trips) : Fin 2 → Nat :=
  let c10_i32 : BitVec 32 := 10#32
  let v150 : Index := Scalar.indexCast c10_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v151 : Index := Scalar.indexCast v107
  ![10, v151.toNat]
def k0_off42 (k0_t4 : Fin k0_t4_loop.trips) : Fin 2 → Nat :=
  let c11_i32 : BitVec 32 := 11#32
  let v154 : Index := Scalar.indexCast c11_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v155 : Index := Scalar.indexCast v107
  ![11, v155.toNat]
def k0_off43 (k0_t4 : Fin k0_t4_loop.trips) : Fin 2 → Nat :=
  let c12_i32 : BitVec 32 := 12#32
  let v158 : Index := Scalar.indexCast c12_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v159 : Index := Scalar.indexCast v107
  ![12, v159.toNat]
def k0_off44 (k0_t4 : Fin k0_t4_loop.trips) : Fin 2 → Nat :=
  let c13_i32 : BitVec 32 := 13#32
  let v162 : Index := Scalar.indexCast c13_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v163 : Index := Scalar.indexCast v107
  ![13, v163.toNat]
def k0_off45 (k0_t4 : Fin k0_t4_loop.trips) : Fin 2 → Nat :=
  let c14_i32 : BitVec 32 := 14#32
  let v166 : Index := Scalar.indexCast c14_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v167 : Index := Scalar.indexCast v107
  ![14, v167.toNat]
def k0_off46 (k0_t4 : Fin k0_t4_loop.trips) : Fin 2 → Nat :=
  let c15_i32 : BitVec 32 := 15#32
  let v170 : Index := Scalar.indexCast c15_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v171 : Index := Scalar.indexCast v107
  ![15, v171.toNat]
def k0_off47 (k0_t4 : Fin k0_t4_loop.trips) : Fin 2 → Nat :=
  let c16_i32_67 : BitVec 32 := 16#32
  let v174 : Index := Scalar.indexCast c16_i32_67
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v175 : Index := Scalar.indexCast v107
  ![16, v175.toNat]
def k0_off48 (k0_t4 : Fin k0_t4_loop.trips) : Fin 2 → Nat :=
  let c17_i32 : BitVec 32 := 17#32
  let v178 : Index := Scalar.indexCast c17_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v179 : Index := Scalar.indexCast v107
  ![17, v179.toNat]
def k0_off49 (k0_t4 : Fin k0_t4_loop.trips) : Fin 2 → Nat :=
  let c18_i32 : BitVec 32 := 18#32
  let v182 : Index := Scalar.indexCast c18_i32
  let c0_i32_61 : BitVec 32 := 0#32
  let c0_i32_56 : BitVec 32 := 0#32
  let c1_i32_58 : BitVec 32 := 1#32
  let arg15 : BitVec 32 := Scf.iv c0_i32_56 c1_i32_58 k0_t4
  let c1_i32_60 : BitVec 32 := 1#32
  let v105 : BitVec 32 := Scalar.muli arg15 c1_i32_60
  let v106 : BitVec 32 := Scalar.addi c0_i32_61 v105
  let c16_i32_62 : BitVec 32 := 16#32
  let v107 : BitVec 32 := Scalar.muli v106 c16_i32_62
  let v183 : Index := Scalar.indexCast v107
  ![18, v183.toNat]

def k0_chk23 (v209 : IVec S16 32) : Prop :=
  (∀ a x, ((![v209] : Fin 1 → IVec S16 32) a x).toNat < S9728.size a)
theorem k0_idx23_inb : ∀ (v209 : IVec S16 32) (k0_hw23 : k0_chk23 v209), ∀ a x, ((![v209] : Fin 1 → IVec S16 32) a x).toNat < S9728.size a := fun v209 k0_hw23 => k0_hw23

def k0_chk24 (v213 : IVec S16 32) : Prop :=
  (∀ a x, ((![v213] : Fin 1 → IVec S16 32) a x).toNat < S9728.size a)
theorem k0_idx24_inb : ∀ (v213 : IVec S16 32) (k0_hw24 : k0_chk24 v213), ∀ a x, ((![v213] : Fin 1 → IVec S16 32) a x).toNat < S9728.size a := fun v213 k0_hw24 => k0_hw24

def k0_chk25 (v217 : IVec S16 32) : Prop :=
  (∀ a x, ((![v217] : Fin 1 → IVec S16 32) a x).toNat < S9728.size a)
theorem k0_idx25_inb : ∀ (v217 : IVec S16 32) (k0_hw25 : k0_chk25 v217), ∀ a x, ((![v217] : Fin 1 → IVec S16 32) a x).toNat < S9728.size a := fun v217 k0_hw25 => k0_hw25

def k0_chk26 (v221 : IVec S16 32) : Prop :=
  (∀ a x, ((![v221] : Fin 1 → IVec S16 32) a x).toNat < S9728.size a)
theorem k0_idx26_inb : ∀ (v221 : IVec S16 32) (k0_hw26 : k0_chk26 v221), ∀ a x, ((![v221] : Fin 1 → IVec S16 32) a x).toNat < S9728.size a := fun v221 k0_hw26 => k0_hw26

def k0_chk27 (v225 : IVec S16 32) : Prop :=
  (∀ a x, ((![v225] : Fin 1 → IVec S16 32) a x).toNat < S9728.size a)
theorem k0_idx27_inb : ∀ (v225 : IVec S16 32) (k0_hw27 : k0_chk27 v225), ∀ a x, ((![v225] : Fin 1 → IVec S16 32) a x).toNat < S9728.size a := fun v225 k0_hw27 => k0_hw27

def k0_chk28 (v229 : IVec S16 32) : Prop :=
  (∀ a x, ((![v229] : Fin 1 → IVec S16 32) a x).toNat < S9728.size a)
theorem k0_idx28_inb : ∀ (v229 : IVec S16 32) (k0_hw28 : k0_chk28 v229), ∀ a x, ((![v229] : Fin 1 → IVec S16 32) a x).toNat < S9728.size a := fun v229 k0_hw28 => k0_hw28

def k0_chk29 (v233 : IVec S16 32) : Prop :=
  (∀ a x, ((![v233] : Fin 1 → IVec S16 32) a x).toNat < S9728.size a)
theorem k0_idx29_inb : ∀ (v233 : IVec S16 32) (k0_hw29 : k0_chk29 v233), ∀ a x, ((![v233] : Fin 1 → IVec S16 32) a x).toNat < S9728.size a := fun v233 k0_hw29 => k0_hw29

def k0_chk30 (v237 : IVec S16 32) : Prop :=
  (∀ a x, ((![v237] : Fin 1 → IVec S16 32) a x).toNat < S9728.size a)
theorem k0_idx30_inb : ∀ (v237 : IVec S16 32) (k0_hw30 : k0_chk30 v237), ∀ a x, ((![v237] : Fin 1 → IVec S16 32) a x).toNat < S9728.size a := fun v237 k0_hw30 => k0_hw30

def k0_chk31 (v241 : IVec S16 32) : Prop :=
  (∀ a x, ((![v241] : Fin 1 → IVec S16 32) a x).toNat < S9728.size a)
theorem k0_idx31_inb : ∀ (v241 : IVec S16 32) (k0_hw31 : k0_chk31 v241), ∀ a x, ((![v241] : Fin 1 → IVec S16 32) a x).toNat < S9728.size a := fun v241 k0_hw31 => k0_hw31

def k0_chk32 (v245 : IVec S16 32) : Prop :=
  (∀ a x, ((![v245] : Fin 1 → IVec S16 32) a x).toNat < S9728.size a)
theorem k0_idx32_inb : ∀ (v245 : IVec S16 32) (k0_hw32 : k0_chk32 v245), ∀ a x, ((![v245] : Fin 1 → IVec S16 32) a x).toNat < S9728.size a := fun v245 k0_hw32 => k0_hw32

def k0_chk33 (v249 : IVec S16 32) : Prop :=
  (∀ a x, ((![v249] : Fin 1 → IVec S16 32) a x).toNat < S9728.size a)
theorem k0_idx33_inb : ∀ (v249 : IVec S16 32) (k0_hw33 : k0_chk33 v249), ∀ a x, ((![v249] : Fin 1 → IVec S16 32) a x).toNat < S9728.size a := fun v249 k0_hw33 => k0_hw33

def k0_chk34 (v253 : IVec S16 32) : Prop :=
  (∀ a x, ((![v253] : Fin 1 → IVec S16 32) a x).toNat < S9728.size a)
theorem k0_idx34_inb : ∀ (v253 : IVec S16 32) (k0_hw34 : k0_chk34 v253), ∀ a x, ((![v253] : Fin 1 → IVec S16 32) a x).toNat < S9728.size a := fun v253 k0_hw34 => k0_hw34

def k0_chk35 (v257 : IVec S16 32) : Prop :=
  (∀ a x, ((![v257] : Fin 1 → IVec S16 32) a x).toNat < S9728.size a)
theorem k0_idx35_inb : ∀ (v257 : IVec S16 32) (k0_hw35 : k0_chk35 v257), ∀ a x, ((![v257] : Fin 1 → IVec S16 32) a x).toNat < S9728.size a := fun v257 k0_hw35 => k0_hw35

def k0_chk36 (v261 : IVec S16 32) : Prop :=
  (∀ a x, ((![v261] : Fin 1 → IVec S16 32) a x).toNat < S9728.size a)
theorem k0_idx36_inb : ∀ (v261 : IVec S16 32) (k0_hw36 : k0_chk36 v261), ∀ a x, ((![v261] : Fin 1 → IVec S16 32) a x).toNat < S9728.size a := fun v261 k0_hw36 => k0_hw36

def k0_chk37 (v265 : IVec S16 32) : Prop :=
  (∀ a x, ((![v265] : Fin 1 → IVec S16 32) a x).toNat < S9728.size a)
theorem k0_idx37_inb : ∀ (v265 : IVec S16 32) (k0_hw37 : k0_chk37 v265), ∀ a x, ((![v265] : Fin 1 → IVec S16 32) a x).toNat < S9728.size a := fun v265 k0_hw37 => k0_hw37

def k0_chk38 (v269 : IVec S16 32) : Prop :=
  (∀ a x, ((![v269] : Fin 1 → IVec S16 32) a x).toNat < S9728.size a)
theorem k0_idx38_inb : ∀ (v269 : IVec S16 32) (k0_hw38 : k0_chk38 v269), ∀ a x, ((![v269] : Fin 1 → IVec S16 32) a x).toNat < S9728.size a := fun v269 k0_hw38 => k0_hw38

def k0_chk39 (v273 : IVec S16 32) : Prop :=
  (∀ a x, ((![v273] : Fin 1 → IVec S16 32) a x).toNat < S9728.size a)
theorem k0_idx39_inb : ∀ (v273 : IVec S16 32) (k0_hw39 : k0_chk39 v273), ∀ a x, ((![v273] : Fin 1 → IVec S16 32) a x).toNat < S9728.size a := fun v273 k0_hw39 => k0_hw39

def k0_chk40 (v277 : IVec S16 32) : Prop :=
  (∀ a x, ((![v277] : Fin 1 → IVec S16 32) a x).toNat < S9728.size a)
theorem k0_idx40_inb : ∀ (v277 : IVec S16 32) (k0_hw40 : k0_chk40 v277), ∀ a x, ((![v277] : Fin 1 → IVec S16 32) a x).toNat < S9728.size a := fun v277 k0_hw40 => k0_hw40

def k0_chk41 (v281 : IVec S16 32) : Prop :=
  (∀ a x, ((![v281] : Fin 1 → IVec S16 32) a x).toNat < S9728.size a)
theorem k0_idx41_inb : ∀ (v281 : IVec S16 32) (k0_hw41 : k0_chk41 v281), ∀ a x, ((![v281] : Fin 1 → IVec S16 32) a x).toNat < S9728.size a := fun v281 k0_hw41 => k0_hw41

def k0_chk42 (v109 : IVec S16 32) (v283 : IVec S16 32) : Prop :=
  (∀ a x, ((![v109, v283] : Fin 2 → IVec S16 32) a x).toNat < S19x2048.size a)
theorem k0_idx42_inb : ∀ (v109 : IVec S16 32) (v283 : IVec S16 32) (k0_hw42 : k0_chk42 v109 v283), ∀ a x, ((![v109, v283] : Fin 2 → IVec S16 32) a x).toNat < S19x2048.size a := fun v109 v283 k0_hw42 => k0_hw42

def k0_chk43 (v296 : IVec S16 32) : Prop :=
  (∀ a x, ((![v296] : Fin 1 → IVec S16 32) a x).toNat < S9728.size a)
theorem k0_idx43_inb : ∀ (v296 : IVec S16 32) (k0_hw43 : k0_chk43 v296), ∀ a x, ((![v296] : Fin 1 → IVec S16 32) a x).toNat < S9728.size a := fun v296 k0_hw43 => k0_hw43

def k0_chk44 (v297 : IVec S16 32) : Prop :=
  (∀ a x, ((![v297] : Fin 1 → IVec S16 32) a x).toNat < S9728.size a)
theorem k0_idx44_inb : ∀ (v297 : IVec S16 32) (k0_hw44 : k0_chk44 v297), ∀ a x, ((![v297] : Fin 1 → IVec S16 32) a x).toNat < S9728.size a := fun v297 k0_hw44 => k0_hw44
def k0_off50 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_21 : BitVec 32 := 0#32
  let c0_i32_22 : BitVec 32 := 0#32
  ![v18.toNat, 0, 0]
def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_25 : BitVec 32 := 0#32
  ![v18.toNat, 0]
def k0_off52 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27_r0 : BitVec 32 := 0#32
  ![v1.toNat, 0]
abbrev grid1 : Pipeline.Grid := .none

abbrev stage1_0 : Fin 1 → Memref sig .tc .vmem S1216x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x19x512x512 : Shape := ⟨4, ![4, 19, 512, 512]⟩
abbrev S4x512x512 : Shape := ⟨3, ![4, 512, 512]⟩
abbrev S_ : Shape := ⟨0, ![]⟩
abbrev S4x1x512x512 : Shape := ⟨4, ![4, 1, 512, 512]⟩
abbrev S4x19x262144 : Shape := ⟨3, ![4, 19, 262144]⟩
abbrev S4x1x262144 : Shape := ⟨3, ![4, 1, 262144]⟩
abbrev S19 : Shape := ⟨1, ![19]⟩
abbrev S1x19x1 : Shape := ⟨3, ![1, 19, 1]⟩
abbrev S4x19 : Shape := ⟨2, ![4, 19]⟩
abbrev S4x19x1 : Shape := ⟨3, ![4, 19, 1]⟩
abbrev S4x19x262143 : Shape := ⟨3, ![4, 19, 262143]⟩
abbrev S4 : Shape := ⟨1, ![4]⟩

abbrev nBuf : Space → Nat
  | .hbm => 87
  | .vmem => 0
  | .smem => 0
  | _ => 0

abbrev bufTy : (tb : Table) → Fin (tcTables nBuf tb) → BufTy
  | .hbm, ⟨0, _⟩ => ⟨S4x19x512x512, .f32⟩
  | .hbm, ⟨1, _⟩ => ⟨S4x512x512, .i32⟩
  | .hbm, ⟨2, _⟩ => ⟨S_, .f32⟩
  | .hbm, ⟨3, _⟩ => ⟨S4x512x512, .f32⟩
  | .hbm, ⟨4, _⟩ => ⟨S_, .f32⟩
  | .hbm, ⟨5, _⟩ => ⟨S4x512x512, .f32⟩
  | .hbm, ⟨6, _⟩ => ⟨S4x512x512, .f32⟩
  | .hbm, ⟨7, _⟩ => ⟨S4x1x512x512, .f32⟩
  | .hbm, ⟨8, _⟩ => ⟨S4x19x512x512, .f32⟩
  | .hbm, ⟨9, _⟩ => ⟨S4x19x512x512, .f32⟩
  | .hbm, ⟨10, _⟩ => ⟨S4x19x512x512, .f32⟩
  | .hbm, ⟨11, _⟩ => ⟨S_, .f32⟩
  | .hbm, ⟨12, _⟩ => ⟨S4x512x512, .f32⟩
  | .hbm, ⟨13, _⟩ => ⟨S4x1x512x512, .f32⟩
  | .hbm, ⟨14, _⟩ => ⟨S4x19x512x512, .f32⟩
  | .hbm, ⟨15, _⟩ => ⟨S4x19x512x512, .f32⟩
  | .hbm, ⟨16, _⟩ => ⟨S4x19x262144, .f32⟩
  | .hbm, ⟨17, _⟩ => ⟨S4x1x262144, .i32⟩
  | .hbm, ⟨18, _⟩ => ⟨S19, .i32⟩
  | .hbm, ⟨19, _⟩ => ⟨S1x19x1, .i32⟩
  | .hbm, ⟨20, _⟩ => ⟨S4x19x262144, .i32⟩
  | .hbm, ⟨21, _⟩ => ⟨S4x19x262144, .i32⟩
  | .hbm, ⟨22, _⟩ => ⟨S4x19x262144, .i1⟩
  | .hbm, ⟨23, _⟩ => ⟨S4x19x262144, .f32⟩
  | .hbm, ⟨24, _⟩ => ⟨S4x19x262144, .f32⟩
  | .hbm, ⟨25, _⟩ => ⟨S4x19x262144, .f32⟩
  | .hbm, ⟨26, _⟩ => ⟨S_, .f32⟩
  | .hbm, ⟨27, _⟩ => ⟨S4x19x262144, .f32⟩
  | .hbm, ⟨28, _⟩ => ⟨S4x19x262144, .f32⟩
  | .hbm, ⟨29, _⟩ => ⟨S_, .f32⟩
  | .hbm, ⟨30, _⟩ => ⟨S4x19x262144, .f32⟩
  | .hbm, ⟨31, _⟩ => ⟨S4x19x262144, .f32⟩
  | .hbm, ⟨32, _⟩ => ⟨S4x19x262144, .f32⟩
  | .hbm, ⟨33, _⟩ => ⟨S_, .f32⟩
  | .hbm, ⟨34, _⟩ => ⟨S4x19x262144, .f32⟩
  | .hbm, ⟨35, _⟩ => ⟨S4x19x262144, .f32⟩
  | .hbm, ⟨36, _⟩ => ⟨S4x19x262144, .f32⟩
  | .hbm, ⟨37, _⟩ => ⟨S4x19x262144, .f32⟩
  | .hbm, ⟨38, _⟩ => ⟨S4x19x262144, .f32⟩
  | .hbm, ⟨39, _⟩ => ⟨S4x19x262144, .f32⟩
  | .hbm, ⟨40, _⟩ => ⟨S_, .f32⟩
  | .hbm, ⟨41, _⟩ => ⟨S4x19, .f32⟩
  | .hbm, ⟨42, _⟩ => ⟨S4x19x1, .f32⟩
  | .hbm, ⟨43, _⟩ => ⟨S_, .f32⟩
  | .hbm, ⟨44, _⟩ => ⟨S_, .f32⟩
  | .hbm, ⟨45, _⟩ => ⟨S4x19x262144, .f32⟩
  | .hbm, ⟨46, _⟩ => ⟨S4x19x262144, .f32⟩
  | .hbm, ⟨47, _⟩ => ⟨S4x19x262144, .f32⟩
  | .hbm, ⟨48, _⟩ => ⟨S_, .f32⟩
  | .hbm, ⟨49, _⟩ => ⟨S4x19x262144, .f32⟩
  | .hbm, ⟨50, _⟩ => ⟨S4x19x262144, .f32⟩
  | .hbm, ⟨51, _⟩ => ⟨S_, .f32⟩
  | .hbm, ⟨52, _⟩ => ⟨S_, .f32⟩
  | .hbm, ⟨53, _⟩ => ⟨S4x19x262144, .f32⟩
  | .hbm, ⟨54, _⟩ => ⟨S4x19x262144, .f32⟩
  | .hbm, ⟨55, _⟩ => ⟨S4x19x262144, .f32⟩
  | .hbm, ⟨56, _⟩ => ⟨S4x19x262144, .f32⟩
  | .hbm, ⟨57, _⟩ => ⟨S_, .f32⟩
  | .hbm, ⟨58, _⟩ => ⟨S4x19x262144, .f32⟩
  | .hbm, ⟨59, _⟩ => ⟨S4x19x262144, .f32⟩
  | .hbm, ⟨60, _⟩ => ⟨S4x19x1, .f32⟩
  | .hbm, ⟨61, _⟩ => ⟨S4x19x262143, .f32⟩
  | .hbm, ⟨62, _⟩ => ⟨S4x19x262143, .f32⟩
  | .hbm, ⟨63, _⟩ => ⟨S4x19x262143, .f32⟩
  | .hbm, ⟨64, _⟩ => ⟨S4x19x262144, .f32⟩
  | .hbm, ⟨65, _⟩ => ⟨S4x19x262144, .f32⟩
  | .hbm, ⟨66, _⟩ => ⟨S_, .f32⟩
  | .hbm, ⟨67, _⟩ => ⟨S4x19, .f32⟩
  | .hbm, ⟨68, _⟩ => ⟨S_, .f32⟩
  | .hbm, ⟨69, _⟩ => ⟨S4x19, .f32⟩
  | .hbm, ⟨70, _⟩ => ⟨S_, .f32⟩
  | .hbm, ⟨71, _⟩ => ⟨S4x19, .f32⟩
  | .hbm, ⟨72, _⟩ => ⟨S4x19, .i1⟩
  | .hbm, ⟨73, _⟩ => ⟨S4x19, .f32⟩
  | .hbm, ⟨74, _⟩ => ⟨S4x19, .f32⟩
  | .hbm, ⟨75, _⟩ => ⟨S_, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_call0_call0_cst : Ref sig .tc := ⟨.hbm, 43, rfl⟩
abbrev main_call0_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_call1_call0_cst : Ref sig .tc := ⟨.hbm, 51, rfl⟩
abbrev main_call1_call0_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Proof.Same.lean ====
/-
  The kernel's two inner loops run one body: the loop over the second buffer pair is the loop over the first with the
  buffers exchanged.
-/
module

public import proofs.«01_k».proof.Defs
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic

variable {F : FTy → Type} [FloatOps F]

theorem loops_eq : k0_t4_loop = k0_t3_loop := rfl

theorem part6_eq (i : grid0.Coords) (arg2 : Memref sig .scVector .hbm S4x19x262144 .f32) (harg2 : arg2.IsWhole) (arg3 : Memref sig .scVector .hbm S4x262144 .i32) (harg3 : arg3.IsWhole) (arg4 : Memref sig .scVector .hbm S32x9728 .f32) (harg4 : arg4.IsWhole) (arg5 : Memref sig .scVector .vmem S19x2048 .f32) (harg5 : arg5.IsWhole) (arg6 : Memref sig .scVector .vmem S19x2048 .f32) (harg6 : arg6.IsWhole) (arg7 : Memref sig .scVector .vmem S2048 .i32) (harg7 : arg7.IsWhole) (arg8 : Memref sig .scVector .vmem S2048 .i32) (harg8 : arg8.IsWhole) (arg9 : Memref sig .scVector .vmem S9728 .f32) (harg9 : arg9.IsWhole) (arg10 arg11 arg12 arg13 v53_r0 : DmaSems sig S_) (a b : BitVec 32) (k : Fin k0_t3_loop.trips) :
    k0_part6 (F := F) i arg2 harg2 arg3 harg3 arg4 harg4 arg5 harg5 arg6 harg6 arg7 harg7 arg8 harg8 arg9 harg9 arg10 arg11 arg12 arg13 v53_r0 a b k
      = k0_part1 i arg2 harg2 arg3 harg3 arg4 harg4 arg6 harg6 arg5 harg5 arg8 harg8 arg7 harg7 arg9 harg9 arg10 arg11 arg12 arg13 v53_r0 a b k := by
  rw [k0_part6_eq_skeleton, k0_part1_eq_skeleton]; unfold k0_part6_skel k0_part1_skel; rfl

theorem t4_eq_t3 (i : grid0.Coords) (arg2 : Memref sig .scVector .hbm S4x19x262144 .f32) (harg2 : arg2.IsWhole) (arg3 : Memref sig .scVector .hbm S4x262144 .i32) (harg3 : arg3.IsWhole) (arg4 : Memref sig .scVector .hbm S32x9728 .f32) (harg4 : arg4.IsWhole) (arg5 : Memref sig .scVector .vmem S19x2048 .f32) (harg5 : arg5.IsWhole) (arg6 : Memref sig .scVector .vmem S19x2048 .f32) (harg6 : arg6.IsWhole) (arg7 : Memref sig .scVector .vmem S2048 .i32) (harg7 : arg7.IsWhole) (arg8 : Memref sig .scVector .vmem S2048 .i32) (harg8 : arg8.IsWhole) (arg9 : Memref sig .scVector .vmem S9728 .f32) (harg9 : arg9.IsWhole) (arg10 arg11 arg12 arg13 v53_r0 : DmaSems sig S_) (v29 : BitVec 32) (v31 v33 : FVec F S16 .f32) (v34 : IVec S16 32) (a b : BitVec 32) (t2 : Fin k0_t2_loop.trips) (k : Fin k0_t3_loop.trips) (u : Unit) :
    k0_t4_body (F := F) i arg2 harg2 arg3 harg3 arg4 harg4 arg5 harg5 arg6 harg6 arg7 harg7 arg8 harg8 arg9 harg9 arg10 arg11 arg12 arg13 v53_r0 v31 v33 v34 k u
      = k0_t3_body i arg2 harg2 arg3 harg3 arg4 harg4 arg6 harg6 arg5 harg5 arg8 harg8 arg7 harg7 arg9 harg9 arg10 arg11 arg12 arg13 v53_r0 v29 v31 v33 v34 a b t2 k u := by
  rfl

end Cert.Proof.Tile
-- ==== Proof.Group.lean ====
/-
  One trip of the kernel's inner loop — a group of sixteen pixels — over the buffers it is given: the nineteen class rows
  and the labels are loaded, the nineteen bins and the two corrections are scattered into the histogram. Stated once, over
  any whole memrefs, with the histogram it leaves as a function (`grp`) of what the buffers held.
-/
module

public import proofs.«01_k».proof.Proof.Same
public import Idealize.ShloMosaic.Lib.SparseCore.Ops
public import Idealize.ShloMosaic.Lib.SparseCore.Quiescent
public import Idealize.ShloMosaic.Lib.WholeRead
public import Idealize.ShloMosaic.Lib.Pipeline.Kit
public import Idealize.ShloMosaic.Lib.Tactic

@[expose] public section

noncomputable section

namespace Cert.Proof.Tile

open Cert.KernelIdeal Cert.KernelIdeal.Gen
open Idealize.ShloMosaic
open Idealize.ShloMosaic.SparseCore.Cfg (HIx)
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-! ## The values -/

/-- A scatter of `v` at `idx` added into the histogram `h`; nothing where an index is out of range. -/
def scat (h : Vec F S9728 .f32) (v : FVec F S16 .f32) (idx : IVec S16 32) : Vec F S9728 .f32 :=
  haveI := Classical.dec (k0_chk1 idx)
  if hc : k0_chk1 idx then storeIdx h ![idx] v (fun _ => 1#1) true (k0_idx1_inb idx hc) else h

theorem scat_pos (h : Vec F S9728 .f32) (v : FVec F S16 .f32) (idx : IVec S16 32) (hc : k0_chk1 idx) :
    scat h v idx = storeIdx h ![idx] v (fun _ => 1#1) true (k0_idx1_inb idx hc) := dif_pos hc

/-- The gather of the own-class logits at the labels. -/
def own (ck : Vec F S19x2048 .f32) (lbl pos : IVec S16 32) : Vec F S16 .f32 :=
  haveI := Classical.dec (k0_chk20 lbl pos)
  if hc : k0_chk20 lbl pos then loadIdx ck ![lbl, pos] (k0_idx20_inb lbl pos hc) else fun _ => Scalar.ofBits .f32 0#32

theorem own_pos (ck : Vec F S19x2048 .f32) (lbl pos : IVec S16 32) (hc : k0_chk20 lbl pos) :
    own ck lbl pos = loadIdx ck ![lbl, pos] (k0_idx20_inb lbl pos hc) := dif_pos hc

/-- The labels of group `g` of a chunk. -/
def lblOf (lb : Vec F S2048 .i32) (g : Fin k0_t3_loop.trips) : IVec S16 32 :=
  View.ld lb (Rect.unit (s := S2048) (k0_off8 g) S16.size (k0_off8_inb g))

/-- The positions of group `g`'s pixels in their chunk, as the kernel computes them. -/
def posOf (g : Fin k0_t3_loop.trips) : IVec S16 32 :=
  k0_pay41 (iota .scVector S16 32 [0] iota_S16_d0_w32_scVector)
    (Scalar.muli (Scalar.addi 0#32 (Scalar.muli (Scf.iv (0#32 : BitVec 32) 1#32 g) 1#32)) 16#32)

/-- Row `0` to `18` of a chunk at group `g`, each in the place the kernel loads it from. -/
def rowOf (ck : Vec F S19x2048 .f32) (g : Fin k0_t3_loop.trips) : Fin 19 → Vec F S1x16 .f32 :=
  ![View.ld ck (Rect.unit (s := S19x2048) (k0_off9 g) S1x16.size (k0_off9_inb g)),
    View.ld ck (Rect.unit (s := S19x2048) (k0_off10 g) S1x16.size (k0_off10_inb g)),
    View.ld ck (Rect.unit (s := S19x2048) (k0_off11 g) S1x16.size (k0_off11_inb g)),
    View.ld ck (Rect.unit (s := S19x2048) (k0_off12 g) S1x16.size (k0_off12_inb g)),
    View.ld ck (Rect.unit (s := S19x2048) (k0_off13 g) S1x16.size (k0_off13_inb g)),
    View.ld ck (Rect.unit (s := S19x2048) (k0_off14 g) S1x16.size (k0_off14_inb g)),
    View.ld ck (Rect.unit (s := S19x2048) (k0_off15 g) S1x16.size (k0_off15_inb g)),
    View.ld ck (Rect.unit (s := S19x2048) (k0_off16 g) S1x16.size (k0_off16_inb g)),
    View.ld ck (Rect.unit (s := S19x2048) (k0_off17 g) S1x16.size (k0_off17_inb g)),
    View.ld ck (Rect.unit (s := S19x2048) (k0_off18 g) S1x16.size (k0_off18_inb g)),
    View.ld ck (Rect.unit (s := S19x2048) (k0_off19 g) S1x16.size (k0_off19_inb g)),
    View.ld ck (Rect.unit (s := S19x2048) (k0_off20 g) S1x16.size (k0_off20_inb g)),
    View.ld ck (Rect.unit (s := S19x2048) (k0_off21 g) S1x16.size (k0_off21_inb g)),
    View.ld ck (Rect.unit (s := S19x2048) (k0_off22 g) S1x16.size (k0_off22_inb g)),
    View.ld ck (Rect.unit (s := S19x2048) (k0_off23 g) S1x16.size (k0_off23_inb g)),
    View.ld ck (Rect.unit (s := S19x2048) (k0_off24 g) S1x16.size (k0_off24_inb g)),
    View.ld ck (Rect.unit (s := S19x2048) (k0_off25 g) S1x16.size (k0_off25_inb g)),
    View.ld ck (Rect.unit (s := S19x2048) (k0_off26 g) S1x16.size (k0_off26_inb g)),
    View.ld ck (Rect.unit (s := S19x2048) (k0_off27 g) S1x16.size (k0_off27_inb g))]

/-- The exponential of a row. -/
def ex (x : Vec F S1x16 .f32) : FVec F S16 .f32 := exp (shapeCast S16 x shapeCasts_S1x16_S16)

/-- 255 over the sum of the exponentials of the nineteen rows, the sum taken as the kernel takes it. -/
def inv (R : Fin 19 → Vec F S1x16 .f32) : FVec F S16 .f32 :=
  k0_pay20 (ex (R 0)) (ex (R 1)) (ex (R 2)) (ex (R 3)) (ex (R 4)) (ex (R 5)) (ex (R 6)) (ex (R 7)) (ex (R 8)) (ex (R 9))
    (ex (R 10)) (ex (R 11)) (ex (R 12)) (ex (R 13)) (ex (R 14)) (ex (R 15)) (ex (R 16)) (ex (R 17)) (R 18)

/-- The word of the constant added to class `c`'s scaled probability: `256 c + 1/2`. -/
def binWord : Fin 19 → BitVec 32 :=
  ![0x3F000000#32, 0x43804000#32, 0x44002000#32, 0x44402000#32, 0x44801000#32, 0x44A01000#32, 0x44C01000#32, 0x44E01000#32,
    0x45000800#32, 0x45100800#32, 0x45200800#32, 0x45300800#32, 0x45400800#32, 0x45500800#32, 0x45600800#32, 0x45700800#32,
    0x45800400#32, 0x45880400#32, 0x45900400#32]

/-- The bins of class `c`: the scaled probability plus `256 c + 1/2`, as an integer. -/
def binOf (R : Fin 19 → Vec F S1x16 .f32) (c : Fin 19) : IVec S16 32 :=
  fptosi 32 (addf (mulf (ex (R c)) (inv R)) (broadcast S16 (Scalar.ofBits .f32 (binWord c))))

/-- The histogram a group leaves. -/
def grp (ck : Vec F S19x2048 .f32) (lb : Vec F S2048 .i32) (g : Fin k0_t3_loop.trips) (h : Vec F S9728 .f32) : Vec F S9728 .f32 :=
  let R := rowOf ck g
  let h := (List.finRange 19).foldl (fun h c => scat h k0_pay92 (binOf R c)) h
  let x := own ck (lblOf lb g) (posOf g)
  scat (scat h k0_pay93 (k0_pay44 (lblOf lb g) (inv R) x)) k0_pay92 (k0_pay45 (lblOf lb g) (inv R) x)

/-- What the group's index checks ask. -/
structure Ok (ck : Vec F S19x2048 .f32) (lb : Vec F S2048 .i32) (g : Fin k0_t3_loop.trips) : Prop where
  bin : ∀ c, k0_chk1 (binOf (rowOf ck g) c)
  gather : k0_chk20 (lblOf lb g) (posOf g)
  bg : k0_chk1 (k0_pay44 (lblOf lb g) (inv (rowOf ck g)) (own ck (lblOf lb g) (posOf g)))
  fg : k0_chk1 (k0_pay45 (lblOf lb g) (inv (rowOf ck g)) (own ck (lblOf lb g) (posOf g)))

/-! ## Buffers held at the value they read -/

section Whole

variable {κ : Kind} {sp : Space} {s : Shape} {e : EltTy} {m : Memref sig κ sp s e}

theorem read_whole_unread (hm : m.IsWhole) (X : s.Idx → Elt F e) : (m.access (.whole s)).read (Elt F) (hm.unread X) = X := by
  refine Eq.trans ?_ (hm.read_unread X)
  generalize hm.unread X = f
  obtain ⟨b, rfl, rfl, rfl, hb⟩ := hm; cases hb
  exact Memref.read_access_whole _ _ _

theorem set_whole (hm : m.IsWhole) : (m.access (.whole s)).set = Finset.univ := by
  obtain ⟨b, rfl, rfl, rfl, hb⟩ := hm; cases hb
  exact Memref.set_access_whole _

theorem write_whole_unread (hm : m.IsWhole) (X w : s.Idx → Elt F e) :
    (m.access (.whole s)).write (Elt F) (hm.unread X) w Finset.univ = hm.unread w := by
  apply hm.eq_unread
  generalize hm.unread X = f
  obtain ⟨b, rfl, rfl, rfl, hb⟩ := hm; cases hb
  exact Memref.write_access_whole_univ _ _ _ _

end Whole

section Rules

variable {Name : Type} [DecidableEq Name] {U : Type} [URA U] {Lvl : Type} [Preorder Lvl] {Ix : Type} [DecidableEq Ix] {Λ : Labels}
variable {defs : Defs nD τ sig (Elt F) Λ} (𝒱 : Variants) (c : Thread nD τ) (bd : Option 𝒱.V)
variable {sp : CoreSpace} {s t : Shape} {e : EltTy} {α : Type} {Q : α → sProp (MT nD τ sig Ix (Elt F) Name U Lvl)}

/-- A whole memref's buffer, held outright at the contents that read `X`. -/
def hold {Ix : Type} [DecidableEq Ix] {Name : Type} [DecidableEq Name] {U : Type} [URA U] {Lvl : Type} [Preorder Lvl]
    (c : Thread nD τ) {sp : Space} {s : Shape} {e : EltTy} {m : Memref sig c.2.kind sp s e} (hm : m.IsWhole) (X : s.Idx → Elt F e) : sProp (MT nD τ sig Ix (Elt F) Name U Lvl) :=
  m.view.loc c ↦{fullShare} (hm.unread X : Buf (Elt F) (m.view.loc c))

theorem hold_load {m : Memref sig c.2.kind sp s e} (hm : m.IsWhole) {X : s.Idx → Elt F e} {r : Rect s} {hl : m.view.LoadsAt r.toLoadRect}
    {k : (r.toLoadRect.shape.Idx → Elt F e) → Prog (TpuEff nD τ sig (Elt F) Λ c.2) α} :
    (hold c hm X) ⊢ iprop((hold c hm X -∗ wp frame (wpE defs 𝒱 c bd) Set.univ (k (View.ld X r)) Q)
      -∗ wp frame (wpE defs 𝒱 c bd) Set.univ (.op (.load m r.toLoadRect hl) k) Q) := by
  unfold hold
  have e2 : m.view.readAt (Elt F) r.toLoadRect (hm.unread X) = View.ld X r := by rw [View.readAt_eq_ld, hm.read_unread]
  rw [← e2]
  exact wp_load 𝒱 c bd Set.univ (Finset.subset_univ _)

theorem hold_loadIdx {m : Memref sig c.2.kind .vmem s e} (hm : m.IsWhole) {X : s.Idx → Elt F e} {idxs : Fin s.rank → IVec t 32}
    {h : ∀ a x, (idxs a x).toNat < s.size a} {hl : m.view.Loads} {k : Vec F t e → Prog (TpuEff nD τ sig (Elt F) Λ c.2) α} :
    (hold c hm X) ⊢ iprop((hold c hm X -∗ wp frame (wpE defs 𝒱 c bd) Set.univ (k (loadIdx X idxs h)) Q)
      -∗ wp frame (wpE defs 𝒱 c bd) Set.univ (SparseCore.vectorLoadIdx m idxs h hl >>= k) Q) := by
  unfold hold
  have := SparseCore.wp_vectorLoadIdx (defs := defs) 𝒱 c bd Set.univ (base := m) (idxs := idxs) (h := h) (hl := hl) (k := k) (Q := Q)
    (S := Finset.univ) (q := fullShare) (f := hm.unread X) (Finset.subset_univ _)
  rw [read_whole_unread] at this
  exact this

theorem hold_storeIdx {d : Fin 1 → Nat} {m : Memref sig c.2.kind .vmem s e} (hm : m.IsWhole) {X : s.Idx → Elt F e} {idxs : Fin s.rank → IVec ⟨1, d⟩ 32}
    {v : Vec F ⟨1, d⟩ e} {mask : IVec ⟨1, d⟩ 1} {add : Bool}
    {h : ∀ a x, (idxs a x).toNat < s.size a} {hs : (m.access (.whole s)).Stores Finset.univ} {k : PUnit → Prog (TpuEff nD τ sig (Elt F) Λ c.2) α} :
    (hold c hm X) ⊢ iprop((hold c hm (storeIdx X idxs v mask add h) -∗ wp frame (wpE defs 𝒱 c bd) Set.univ (k ⟨⟩) Q)
      -∗ wp frame (wpE defs 𝒱 c bd) Set.univ (SparseCore.vectorStoreIdx m idxs v mask add h hs >>= k) Q) := by
  unfold hold
  have := SparseCore.wp_vectorStoreIdx (defs := defs) 𝒱 c bd Set.univ (base := m) (idxs := idxs) (v := v) (mask := mask) (add := add) (h := h) (hs := hs) (k := k) (Q := Q)
    (f := hm.unread X)
  rw [read_whole_unread, set_whole hm, write_whole_unread] at this
  exact this

/-- A check that holds. -/
theorem assume_step {P : Prop} {dP : Decidable P} {k : PLift P → Prog (TpuEff nD τ sig (Elt F) Λ c.2) α} (h : P) :
    (wp frame (wpE defs 𝒱 c bd) Set.univ (k ⟨h⟩) Q) ⊢ wp frame (wpE defs 𝒱 c bd) Set.univ (.op (.assume P dP) k) Q :=
  wp_assume 𝒱 c bd Set.univ h

/-- An indexed store of the kernel's, added into the histogram. -/
theorem hold_scat {m : Memref sig c.2.kind .vmem S9728 .f32} (hm : m.IsWhole) {h : Vec F S9728 .f32} {idx : IVec S16 32} {v : FVec F S16 .f32}
    (hc : k0_chk1 idx) {hs : (m.access (.whole S9728)).Stores Finset.univ} {k : PUnit → Prog (TpuEff nD τ sig (Elt F) Λ c.2) α} :
    (hold c hm h) ⊢ iprop((hold c hm (scat h v idx) -∗ wp frame (wpE defs 𝒱 c bd) Set.univ (k ⟨⟩) Q)
      -∗ wp frame (wpE defs 𝒱 c bd) Set.univ (SparseCore.vectorStoreIdx m ![idx] v (fun _ => 1#1) true hc hs >>= k) Q) := by
  rw [scat_pos _ _ _ hc]; exact hold_storeIdx 𝒱 c bd hm

/-- The kernel's gather of the own-class logits. -/
theorem hold_own {m : Memref sig c.2.kind .vmem S19x2048 .f32} (hm : m.IsWhole) {ck : Vec F S19x2048 .f32} {lbl pos : IVec S16 32}
    (hc : k0_chk20 lbl pos) {hl : m.view.Loads} {k : Vec F S16 .f32 → Prog (TpuEff nD τ sig (Elt F) Λ c.2) α} :
    (hold c hm ck) ⊢ iprop((hold c hm ck -∗ wp frame (wpE defs 𝒱 c bd) Set.univ (k (own ck lbl pos)) Q)
      -∗ wp frame (wpE defs 𝒱 c bd) Set.univ (SparseCore.vectorLoadIdx m ![lbl, pos] hc hl >>= k) Q) := by
  rw [own_pos _ _ _ hc]; exact hold_loadIdx 𝒱 c bd hm

end Rules

/-! ## The group -/

section Trip

abbrev UH : Type := URounds (GSem nD τ sig) ℕ
abbrev UP : Type := URounds (GSem nD τ sig) Unit
abbrev UU : Type := UH × (UP × Counters)
abbrev 𝒱₀ : Variants := Variants.none

local notation "𝕄" => MT nD τ sig (HIx 1) (Elt F) ℕ UU ℕ

open Idealize.ShloMosaic.SparseCore (V)

theorem finRange_eq : List.finRange 19 = [0, 1, 2, 3, 4, 5, 6, 7, 8, 9, 10, 11, 12, 13, 14, 15, 16, 17, 18] := by decide

set_option maxHeartbeats 4000000 in
/-- One group of sixteen pixels, on vector subcore `(i 0, i 1)` of device `d`. -/
theorem t3_wp (d : Dev nD) (i : grid0.Coords) (arg2 : Memref sig .scVector .hbm S4x19x262144 .f32) (harg2 : arg2.IsWhole) (arg3 : Memref sig .scVector .hbm S4x262144 .i32) (harg3 : arg3.IsWhole) (arg4 : Memref sig .scVector .hbm S32x9728 .f32) (harg4 : arg4.IsWhole) (arg5 : Memref sig .scVector .vmem S19x2048 .f32) (harg5 : arg5.IsWhole) (arg6 : Memref sig .scVector .vmem S19x2048 .f32) (harg6 : arg6.IsWhole) (arg7 : Memref sig .scVector .vmem S2048 .i32) (harg7 : arg7.IsWhole) (arg8 : Memref sig .scVector .vmem S2048 .i32) (harg8 : arg8.IsWhole) (arg9 : Memref sig .scVector .vmem S9728 .f32) (harg9 : arg9.IsWhole) (arg10 arg11 arg12 arg13 v53_r0 : DmaSems sig S_) (v29 : BitVec 32) (a b : BitVec 32) (t2 : Fin k0_t2_loop.trips) (g : Fin k0_t3_loop.trips)
    (ck : Vec F S19x2048 .f32) (lb : Vec F S2048 .i32) (h : Vec F S9728 .f32) (hok : Ok ck lb g) :
    iprop(hold (V d ((i 0).castLE hcore0) ((i 1).castLE hsub0)) harg5 ck ∗ hold (V d ((i 0).castLE hcore0) ((i 1).castLE hsub0)) harg7 lb
        ∗ hold (V d ((i 0).castLE hcore0) ((i 1).castLE hsub0)) harg9 h)
      ⊢ (wp frame (wpE (defs₀ (F := F)) 𝒱₀ (V d ((i 0).castLE hcore0) ((i 1).castLE hsub0)) none) Set.univ
          (k0_t3_body (F := F) i arg2 harg2 arg3 harg3 arg4 harg4 arg5 harg5 arg6 harg6 arg7 harg7 arg8 harg8 arg9 harg9 arg10 arg11 arg12 arg13 v53_r0 v29
            k0_pay92 k0_pay93 (iota .scVector S16 32 [0] iota_S16_d0_w32_scVector) a b t2 g ())
          fun _ => iprop(hold (V d ((i 0).castLE hcore0) ((i 1).castLE hsub0)) harg5 ck ∗ hold (V d ((i 0).castLE hcore0) ((i 1).castLE hsub0)) harg7 lb
            ∗ hold (V d ((i 0).castLE hcore0) ((i 1).castLE hsub0)) harg9 (grp ck lb g h)) : sProp 𝕄) := by
  unfold k0_t3_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, Prog.bind_assoc]
  iintro ⟨Hck, Hlb, Hh⟩
  iapply (hold_load 𝒱₀ _ none harg7) $$ Hlb; iintro Hlb
  iterate 19 (iapply (hold_load 𝒱₀ _ none harg5) $$ Hck; iintro Hck)
  iapply (assume_step 𝒱₀ _ none (hok.bin 0))
  iapply (hold_scat 𝒱₀ _ none harg9 _) $$ Hh; iintro Hh
  iapply (assume_step 𝒱₀ _ none (hok.bin 1))
  iapply (hold_scat 𝒱₀ _ none harg9 _) $$ Hh; iintro Hh
  iapply (assume_step 𝒱₀ _ none (hok.bin 2))
  iapply (hold_scat 𝒱₀ _ none harg9 _) $$ Hh; iintro Hh
  iapply (assume_step 𝒱₀ _ none (hok.bin 3))
  iapply (hold_scat 𝒱₀ _ none harg9 _) $$ Hh; iintro Hh
  iapply (assume_step 𝒱₀ _ none (hok.bin 4))
  iapply (hold_scat 𝒱₀ _ none harg9 _) $$ Hh; iintro Hh
  iapply (assume_step 𝒱₀ _ none (hok.bin 5))
  iapply (hold_scat 𝒱₀ _ none harg9 _) $$ Hh; iintro Hh
  iapply (assume_step 𝒱₀ _ none (hok.bin 6))
  iapply (hold_scat 𝒱₀ _ none harg9 _) $$ Hh; iintro Hh
  iapply (assume_step 𝒱₀ _ none (hok.bin 7))
  iapply (hold_scat 𝒱₀ _ none harg9 _) $$ Hh; iintro Hh
  iapply (assume_step 𝒱₀ _ none (hok.bin 8))
  iapply (hold_scat 𝒱₀ _ none harg9 _) $$ Hh; iintro Hh
  iapply (assume_step 𝒱₀ _ none (hok.bin 9))
  iapply (hold_scat 𝒱₀ _ none harg9 _) $$ Hh; iintro Hh
  iapply (assume_step 𝒱₀ _ none (hok.bin 10))
  iapply (hold_scat 𝒱₀ _ none harg9 _) $$ Hh; iintro Hh
  iapply (assume_step 𝒱₀ _ none (hok.bin 11))
  iapply (hold_scat 𝒱₀ _ none harg9 _) $$ Hh; iintro Hh
  iapply (assume_step 𝒱₀ _ none (hok.bin 12))
  iapply (hold_scat 𝒱₀ _ none harg9 _) $$ Hh; iintro Hh
  iapply (assume_step 𝒱₀ _ none (hok.bin 13))
  iapply (hold_scat 𝒱₀ _ none harg9 _) $$ Hh; iintro Hh
  iapply (assume_step 𝒱₀ _ none (hok.bin 14))
  iapply (hold_scat 𝒱₀ _ none harg9 _) $$ Hh; iintro Hh
  iapply (assume_step 𝒱₀ _ none (hok.bin 15))
  iapply (hold_scat 𝒱₀ _ none harg9 _) $$ Hh; iintro Hh
  iapply (assume_step 𝒱₀ _ none (hok.bin 16))
  iapply (hold_scat 𝒱₀ _ none harg9 _) $$ Hh; iintro Hh
  iapply (assume_step 𝒱₀ _ none (hok.bin 17))
  iapply (hold_scat 𝒱₀ _ none harg9 _) $$ Hh; iintro Hh
  iapply (assume_step 𝒱₀ _ none (hok.bin 18))
  iapply (hold_scat 𝒱₀ _ none harg9 _) $$ Hh; iintro Hh
  iapply (assume_step 𝒱₀ _ none (hok.gather))
  iapply (hold_own 𝒱₀ _ none harg5 _) $$ Hck; iintro Hck
  iapply (assume_step 𝒱₀ _ none (hok.bg))
  iapply (hold_scat 𝒱₀ _ none harg9 _) $$ Hh; iintro Hh
  iapply (assume_step 𝒱₀ _ none (hok.fg))
  iapply (hold_scat 𝒱₀ _ none harg9 _) $$ Hh; iintro Hh
  rw [wp_ret]; imodintro
  isplitl [Hck]; · iexact Hck
  isplitl [Hlb]; · iexact Hlb
  unfold grp; rw [finRange_eq]
  simp only [List.foldl]
  iexact Hh

end Trip

end Cert.Proof.Tile
-- ==== Proof.Copies.lean ====
/-
  The kernel's copies: where each chunk of logits and labels starts, what it holds, and the rules by which a chunk is
  fetched into a buffer and waited for — a share of the operand goes with the copy and comes back with it.
-/
module

public import proofs.«01_k».proof.Proof.Group
public import Idealize.ShloMosaic.Lib.Transfers
public import Idealize.ShloMosaic.Lib.ValueLayout

@[expose] public section

noncomputable section

namespace Cert.Proof.Tile

open Cert.KernelIdeal Cert.KernelIdeal.Gen
open Idealize.ShloMosaic Idealize.ShloMosaic.Transfers Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where the chunks start -/

/-- The image tile `i` works on. -/
def img (i : grid0.Coords) : Fin 4 := ⟨(2 * (i 1).val + (i 0).val) / 8, by have := (i 1).isLt; have := (i 0).isLt; change (i 1).val < 16 at *; change (i 0).val < 2 at *; omega⟩

/-- The pixel tile `i`'s chunk `n` starts at. -/
def base (i : grid0.Coords) (n : ℕ) : ℕ := (2 * (i 1).val + (i 0).val) % 8 * 32768 + n % 16 * 2048

theorem base_le (i : grid0.Coords) (n : ℕ) : base i n + 2048 ≤ 262144 := by unfold base; omega

def offL (i : grid0.Coords) (n : ℕ) : Fin 3 → ℕ := ![(img i).val, 0, base i n]
def offB (i : grid0.Coords) (n : ℕ) : Fin 2 → ℕ := ![(img i).val, base i n]

theorem offL_inb (i : grid0.Coords) (n : ℕ) : ∀ a, offL i n a + S1x19x2048.size a ≤ S4x19x262144.size a := by
  intro a; have := base_le i n; have := (img i).isLt
  match a with
  | ⟨0, _⟩ => change (img i).val + 1 ≤ 4; omega
  | ⟨1, _⟩ => change 0 + 19 ≤ 19; omega
  | ⟨2, _⟩ => exact base_le i n

theorem offB_inb (i : grid0.Coords) (n : ℕ) : ∀ a, offB i n a + S1x2048.size a ≤ S4x262144.size a := by
  intro a; have := (img i).isLt
  match a with
  | ⟨0, _⟩ => change (img i).val + 1 ≤ 4; omega
  | ⟨1, _⟩ => exact base_le i n

theorem off2_eq : ∀ i : grid0.Coords, k0_off2 i = offL i 0 := by decide +kernel
theorem off3_eq : ∀ i : grid0.Coords, k0_off3 i = offB i 0 := by decide +kernel
theorem off4_eq : ∀ (i : grid0.Coords) (t : Fin k0_t2_loop.trips), k0_off4 i t = offL i (2 * t.val + 1) := by decide +kernel
theorem off5_eq : ∀ (i : grid0.Coords) (t : Fin k0_t2_loop.trips), k0_off5 i t = offB i (2 * t.val + 1) := by decide +kernel
theorem off28_eq : ∀ (i : grid0.Coords) (t : Fin k0_t2_loop.trips), k0_off28 i t = offL i (2 * t.val + 2) := by decide +kernel
theorem off29_eq : ∀ (i : grid0.Coords) (t : Fin k0_t2_loop.trips), k0_off29 i t = offB i (2 * t.val + 2) := by decide +kernel

/-! ## What the chunks hold -/

/-- Chunk `n` of tile `i`'s logits. -/
def ckOf (X : Vec F S4x19x262144 .f32) (i : grid0.Coords) (n : ℕ) : Vec F S19x2048 .f32 :=
  fun y => X (ix3 (img i) (y 0) ⟨base i n + (y 1).val, Nat.lt_of_lt_of_le (Nat.add_lt_add_left (y 1).isLt _) (base_le i n)⟩)

/-- Chunk `n` of tile `i`'s labels. -/
def lbOf (B : Vec F S4x262144 .i32) (i : grid0.Coords) (n : ℕ) : Vec F S2048 .i32 :=
  fun y => B (ix2 (img i) ⟨base i n + (y 0).val, Nat.lt_of_lt_of_le (Nat.add_lt_add_left (y 0).isLt _) (base_le i n)⟩)

abbrev srcL (arg2 : Memref sig .scVector .hbm S4x19x262144 .f32) (off : Fin 3 → ℕ) (inb : ∀ a, off a + S1x19x2048.size a ≤ S4x19x262144.size a) :
    Memref sig .scVector .hbm S19x2048 .f32 :=
  (arg2.slice (Rect.unit (s := S4x19x262144) off S1x19x2048.size inb) (fun _ => rfl)).squeeze S19x2048 squeezes_S1x19x2048_S19x2048

abbrev srcB (arg3 : Memref sig .scVector .hbm S4x262144 .i32) (off : Fin 2 → ℕ) (inb : ∀ a, off a + S1x2048.size a ≤ S4x262144.size a) :
    Memref sig .scVector .hbm S2048 .i32 :=
  (arg3.slice (Rect.unit (s := S4x262144) off S1x2048.size inb) (fun _ => rfl)).squeeze S2048 squeezes_S1x2048_S2048

theorem read_srcL {arg2 : Memref sig .scVector .hbm S4x19x262144 .f32} (h2 : arg2.IsWhole) (X : Vec F S4x19x262144 .f32) (i : grid0.Coords) (n : ℕ) :
    (srcL arg2 (offL i n) (offL_inb i n)).view.read (Elt F) (h2.unread X) = ckOf X i n := by
  funext y
  refine (congrFun (h2.read_unread X) _).trans ?_
  unfold ckOf
  congr 1
  rw [eq_ix2 y]
  funext a
  have e := reshapeEquiv_ix2_1ab (a := 19) (b := 2048) squeezes_S1x19x2048_S19x2048.numel_eq (y 0) (y 1)
  refine Fin.ext ?_
  refine (congrArg (fun z => ((Rect.unit (s := S4x19x262144) (offL i n) S1x19x2048.size (offL_inb i n)).emb z a).val) e).trans ?_
  match a with
  | ⟨0, _⟩ => show (img i).val + 1 * 0 = _; simp
  | ⟨1, _⟩ => show 0 + 1 * (y 0).val = _; simp
  | ⟨2, _⟩ => show base i n + 1 * (y 1).val = _; simp

theorem read_srcB {arg3 : Memref sig .scVector .hbm S4x262144 .i32} (h3 : arg3.IsWhole) (B : Vec F S4x262144 .i32) (i : grid0.Coords) (n : ℕ) :
    (srcB arg3 (offB i n) (offB_inb i n)).view.read (Elt F) (h3.unread B) = lbOf B i n := by
  funext y
  refine (congrFun (h3.read_unread B) _).trans ?_
  unfold lbOf
  congr 1
  funext a
  have e := Shape.reshapeEquiv_cons_one (n := 1) (d := ![2048]) squeezes_S1x2048_S2048.numel_eq y
  refine Fin.ext ?_
  refine (congrArg (fun z => ((Rect.unit (s := S4x262144) (offB i n) S1x2048.size (offB_inb i n)).emb z a).val) e).trans ?_
  match a with
  | ⟨0, _⟩ => show (img i).val + 1 * 0 = _; simp
  | ⟨1, _⟩ => show base i n + 1 * (y 0).val = _; simp

/-! ## A fetch and its wait -/

section Copy

local notation "𝕄" => MT nD τ sig (HIx 1) (Elt F) ℕ UU ℕ
local notation "EC" => (countersEmb : UEmb Counters 𝕄)

variable {Λ : Labels} {defs : Defs nD τ sig (Elt F) Λ} (𝒱 : Variants) (c : Thread nD τ) (bd : Option 𝒱.V)
variable {s : Shape} {e : EltTy} {α : Type}

/-- A fetch on its way from `src` into `dst` on the semaphore `sm`: it delivers the buffer holding what `src` reads, and
    the share of the source that went with it; the rest of the share is kept beside it. -/
def Fly (src : Memref sig c.2.kind .hbm s e) {dst : Memref sig c.2.kind .vmem s e} (hd : dst.IsWhole) (sm : DmaSem sig) (q : PosShare TreeShare)
    (f : Buf (Elt F) (src.view.loc c)) : sProp 𝕄 :=
  iprop(Flight EC c (.dma sm) none dst.view.dmaCredit iprop(hold c hd (src.view.read (Elt F) f) ∗ (src.view.loc c ↦[src.view.set]{q} f))
    ∗ (src.view.loc c ↦[Finset.univ \ src.view.set]{q} f))

/-- What a thread owes, with waits at `none` beside the ones it started with. -/
def Owing (O : CellTallies nD τ sig (HIx 1)) (W : Waits sig (HIx 1)) : sProp 𝕄 :=
  iprop(∃ W', ⌜∀ p ∈ W', p ∈ W ∨ p.2 = none⌝ ∗ owes c O W')

theorem fly_issue {Q : α → sProp 𝕄} {src : Memref sig c.2.kind .hbm s e} {dst : Memref sig c.2.kind .vmem s e} (hd : dst.IsWhole) {sm : DmaSem sig} {q : PosShare TreeShare}
    {f : Buf (Elt F) (src.view.loc c)} {Y : s.Idx → Elt F e} (hp : 0 < s.numel)
    {hsrc : src.view.WordExact} {hdst : dst.view.WordExact} {hsem : DmaTarget.Typed (nD := nD) .hbm (.dma sm) (.here dst)}
    {k : PUnit → Prog (TpuEff nD τ sig (Elt F) Λ c.2) α} :
    iprop((src.view.loc c ↦[Finset.univ]{q} f) ∗ hold c hd Y ∗ semVal (c, .dma sm) 0)
      ⊢ iprop((Fly c src hd sm q f -∗ wp frame (wpE defs 𝒱 c bd) Set.univ (k ⟨⟩) Q)
          -∗ wp frame (wpE defs 𝒱 c bd) Set.univ (.op (.enqueueDma src (.here dst) (.dma sm) hsrc hdst hsem) k) Q) := by
  iintro ⟨Hs, Hd, Hv⟩ Hk
  ihave Hs' := (pointsTo_split_subset (Finset.subset_univ src.view.set)).1 $$ Hs
  icases Hs' with ⟨Hs, Hr⟩
  unfold hold
  iapply (wp_dmaLocal EC 𝒱 c bd (Sd := Finset.univ) none dst.view.dmaCredit rfl (dst.view.dmaCredit_pos hp) (Finset.subset_univ _)) $$ [Hs Hd Hv]
  · isplitl [Hs]; · iexact Hs
    isplitl [Hd] <;> iassumption
  iintro Hf
  iapply Hk
  unfold Fly
  isplitl [Hf]
  · iapply (Flight_mono EC c ?hm) $$ Hf
    case hm =>
      unfold hold
      have e1 : dst.view.write (Elt F) (hd.unread Y) (ReadAs.same.apply (src.view.read (Elt F) f)) Finset.univ = hd.unread (src.view.read (Elt F) f) :=
        hd.eq_unread (View.read_write_univ _ _)
      rw [e1]
  · iexact Hr

theorem fly_wait {Q : α → sProp 𝕄} {src : Memref sig c.2.kind .hbm s e} {dst : Memref sig c.2.kind .vmem s e} (hd : dst.IsWhole) {sm : DmaSem sig} {q : PosShare TreeShare}
    {f : Buf (Elt F) (src.view.loc c)} {O : CellTallies nD τ sig (HIx 1)} {W : Waits sig (HIx 1)}
    {srcw : Memref sig c.2.kind .hbm s e} {hsrc : srcw.view.WordExact} {hdst : dst.view.WordExact}
    {k : PUnit → Prog (TpuEff nD τ sig (Elt F) Λ c.2) α} :
    iprop(Fly c src hd sm q f ∗ Owing c O W ∗ MayWaits c none O)
      ⊢ iprop((iprop((src.view.loc c ↦[Finset.univ]{q} f) ∗ hold c hd (src.view.read (Elt F) f) ∗ semVal (c, .dma sm) 0 ∗ Owing c O W)
            -∗ wp frame (wpE defs 𝒱 c bd) Set.univ (k ⟨⟩) Q)
          -∗ wp frame (wpE defs 𝒱 c bd) Set.univ (.op (.waitDma2 sm srcw dst hsrc hdst) k) Q) := by
  unfold Fly Owing
  iintro ⟨⟨Hf, Hr⟩, ⟨%W', %hW, HO⟩, Hmw⟩ Hk
  ihave Hm := (MayWaits.elim (.dma sm)) $$ Hmw
  iapply (wp_waitLocalO EC 𝒱 c bd none rfl) $$ [Hf HO Hm]
  · isplitl [Hf]; · iexact Hf
    isplitl [HO] <;> iassumption
  iintro ⟨⟨Hd, Hs⟩, Hv, HO⟩
  iapply Hk
  isplitl [Hs Hr]
  · iapply (pointsTo_split_subset (Finset.subset_univ src.view.set)).2
    isplitl [Hs] <;> iassumption
  isplitl [Hd]; · iexact Hd
  isplitl [Hv]; · iexact Hv
  iexists (insert (SemLoc.dma sm, none) W')
  isplitr
  · ipureintro
    intro p hp
    rcases Finset.mem_insert.mp hp with h | h
    · right; rw [h]
    · exact hW p h
  · iexact HO

end Copy

end Cert.Proof.Tile
-- ==== Proof.TileBody.lean ====
/-
  The kernel's task on one tile: the histogram zeroed, the sixteen chunks fetched through two buffer pairs and added up
  group by group, the histogram written to the tile's row of the result. What it leaves is `hists`, a fold of `grp` over
  the groups of the chunks.
-/
module

public import proofs.«01_k».proof.Proof.Copies

@[expose] public section

noncomputable section

namespace Cert.Proof.Tile

open Cert.KernelIdeal Cert.KernelIdeal.Gen
open Idealize.ShloMosaic Idealize.ShloMosaic.Transfers Idealize.ShloMosaic.ValueIdx
open Idealize.ShloMosaic.SparseCore.Cfg (HIx)
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The histogram after the first `n` groups of a chunk. -/
def grps (ck : Vec F S19x2048 .f32) (lb : Vec F S2048 .i32) (h : Vec F S9728 .f32) : ℕ → Vec F S9728 .f32
  | 0 => h
  | n + 1 => if hn : n < k0_t3_loop.trips then grp ck lb ⟨n, hn⟩ (grps ck lb h n) else grps ck lb h n

/-- The histogram after a chunk. -/
def chunk (ck : Vec F S19x2048 .f32) (lb : Vec F S2048 .i32) (h : Vec F S9728 .f32) : Vec F S9728 .f32 :=
  grps ck lb h k0_t3_loop.trips

/-- Tile `i`'s histogram after its first `n` chunks. -/
def hists (X : Vec F S4x19x262144 .f32) (B : Vec F S4x262144 .i32) (i : grid0.Coords) : ℕ → Vec F S9728 .f32
  | 0 => fun _ => Scalar.ofBits .f32 0#32
  | n + 1 => chunk (ckOf X i n) (lbOf B i n) (hists X B i n)

/-- The histogram with its first `16 n` bins zeroed. -/
def zeroed (h : Vec F S9728 .f32) (n : ℕ) : Vec F S9728 .f32 := fun x => if (x 0).val < 16 * n then Scalar.ofBits .f32 0#32 else h x

section Rules

local notation "𝕄" => MT nD τ sig (HIx 1) (Elt F) ℕ UU ℕ

theorem read_store {κ : Kind} {sp : Space} {s : Shape} {e : EltTy} {m : Memref sig κ sp s e} (f : m.view.ty.Contents (Elt F)) (r : Rect s) (w : r.shape.Idx → Elt F e) :
    m.view.read (Elt F) ((m.access r).write (Elt F) f w Finset.univ) = r.overlay (m.view.read (Elt F) f) w := by
  funext j
  by_cases hj : j ∈ r.set
  · rw [← Rect.map_emb_univ, Finset.mem_map] at hj
    obtain ⟨y, -, rfl⟩ := hj
    rw [Rect.overlay_emb]
    exact View.read_write_of_mem (v := m.view.slice r) f w (Finset.mem_univ y)
  · rw [Rect.overlay_of_not_mem _ _ _ hj, View.read_apply, View.read_apply]
    congr 1
    refine View.write_of_not_mem _ _ _ ?_
    intro h
    apply hj
    obtain ⟨y, -, hy⟩ := Finset.mem_map.mp h
    rw [← m.view.emb.injective hy, ← Rect.map_emb_univ]
    exact Finset.mem_map_of_mem _ (Finset.mem_univ y)

variable {Λ : Labels} {defs : Defs nD τ sig (Elt F) Λ} (𝒱 : Variants) (c : Thread nD τ) (bd : Option 𝒱.V)

theorem hold_store {sp : CoreSpace} {s : Shape} {e : EltTy} {α : Type} {Q : α → sProp 𝕄} {m : Memref sig c.2.kind sp s e} (hm : m.IsWhole) {X : s.Idx → Elt F e} {r : Rect s} {w : r.shape.Idx → Elt F e}
    {hx : (m.access r).Stores Finset.univ} {hu} {k : PUnit → Prog (TpuEff nD τ sig (Elt F) Λ c.2) α} :
    (hold c hm X) ⊢ iprop((hold c hm (r.overlay X w) -∗ wp frame (wpE defs 𝒱 c bd) Set.univ (k ⟨⟩) Q)
      -∗ wp frame (wpE defs 𝒱 c bd) Set.univ (.op (.store m r w Finset.univ hx hu) k) Q) := by
  have e2 : hm.unread (r.overlay X w) = (m.access r).write (Elt F) (hm.unread X) w Finset.univ :=
    (hm.eq_unread (by rw [read_store, hm.read_unread])).symm
  have h : (((m.access r).loc c ↦[Finset.univ]{fullShare} (hm.unread X : Buf (Elt F) ((m.access r).loc c))) : sProp 𝕄)
      ⊢ iprop((((m.access r).loc c ↦[Finset.univ]{fullShare} ((m.access r).write (Elt F) (hm.unread X) w Finset.univ)) -∗ wp frame (wpE defs 𝒱 c bd) Set.univ (k ⟨⟩) Q)
        -∗ wp frame (wpE defs 𝒱 c bd) Set.univ (.op (.store m r w Finset.univ hx hu) k) Q) :=
    wp_store 𝒱 c bd Set.univ (Finset.subset_univ _)
  unfold hold
  rw [e2]
  exact h

end Rules

theorem zeroed_step (h : Vec F S9728 .f32) (k : Fin k0_t1_loop.trips) :
    (Rect.unit (s := S9728) (k0_off1 k) S16.size (k0_off1_inb k)).overlay (zeroed h k.val) k0_pay91 = zeroed h (k.val + 1) := by
  funext x
  by_cases hx : x ∈ (Rect.unit (s := S9728) (k0_off1 k) S16.size (k0_off1_inb k)).set
  · have hx' := hx
    rw [← Rect.map_emb_univ, Finset.mem_map] at hx
    obtain ⟨y, -, rfl⟩ := hx
    rw [Rect.overlay_emb]
    unfold zeroed
    rw [if_pos]; · rfl
    show k0_off1 k 0 + 1 * (y 0).val < _
    have e0 : k0_off1 k 0 = 16 * k.val := congrFun (k0_off1_eq k) 0
    have : (y 0).val < 16 := (y 0).isLt
    omega
  · rw [Rect.overlay_of_not_mem _ _ _ hx]
    unfold zeroed
    have hi : ¬ (16 * k.val ≤ (x 0).val ∧ (x 0).val < 16 * k.val + 16) := by
      intro hc
      apply hx
      rw [← Rect.map_emb_univ, Finset.mem_map]
      refine ⟨fun _ => ⟨(x 0).val - 16 * k.val, ?_⟩, Finset.mem_univ _, ?_⟩
      · rename_i a; match a with | ⟨0, _⟩ => show _ < 16; omega
      · funext a
        match a with
        | ⟨0, _⟩ =>
          refine Fin.ext ?_
          show k0_off1 k 0 + 1 * ((x 0).val - 16 * k.val) = (x 0).val
          have e0 : k0_off1 k 0 = 16 * k.val := congrFun (k0_off1_eq k) 0
          omega
    by_cases h1 : (x 0).val < 16 * k.val
    · rw [if_pos h1, if_pos (by omega)]
    · rw [if_neg h1, if_neg (by omega)]

section Body

local notation "𝕄" => MT nD τ sig (HIx 1) (Elt F) ℕ UU ℕ

variable (d : Dev nD) (i : grid0.Coords) (arg2 : Memref sig .scVector .hbm S4x19x262144 .f32) (harg2 : arg2.IsWhole) (arg3 : Memref sig .scVector .hbm S4x262144 .i32) (harg3 : arg3.IsWhole) (arg4 : Memref sig .scVector .hbm S32x9728 .f32) (harg4 : arg4.IsWhole) (arg5 : Memref sig .scVector .vmem S19x2048 .f32) (harg5 : arg5.IsWhole) (arg6 : Memref sig .scVector .vmem S19x2048 .f32) (harg6 : arg6.IsWhole) (arg7 : Memref sig .scVector .vmem S2048 .i32) (harg7 : arg7.IsWhole) (arg8 : Memref sig .scVector .vmem S2048 .i32) (harg8 : arg8.IsWhole) (arg9 : Memref sig .scVector .vmem S9728 .f32) (harg9 : arg9.IsWhole) (arg10 arg11 arg12 arg13 v53_r0 : DmaSems sig S_)

/-- The thread of tile `i` of device `d`. -/
abbrev thr (d : Dev nD) (i : grid0.Coords) : Thread nD τ := V d ((i 0).castLE hcore0) ((i 1).castLE hsub0)

theorem t1_wp (h : Vec F S9728 .f32) {α : Type} {kk : Unit → Prog (TpuEff nD τ sig (Elt F) Λ₀ (thr d i).2) α} {Q : α → sProp 𝕄} :
    (hold (thr d i) harg9 h)
      ⊢ iprop((hold (thr d i) harg9 (hists (F := F) (fun _ => Scalar.ofBits .f32 0#32) (fun _ => 0#32) i 0) -∗ wp frame (wpE (defs₀ (F := F)) 𝒱₀ (thr d i) none) Set.univ (kk ⟨⟩) Q)
        -∗ wp frame (wpE (defs₀ (F := F)) 𝒱₀ (thr d i) none) Set.univ
          (Scf.Loop.for k0_t1_loop k0_t1_ok ⟨⟩ (k0_t1_body (F := F) i arg2 harg2 arg3 harg3 arg4 harg4 arg5 harg5 arg6 harg6 arg7 harg7 arg8 harg8 arg9 harg9 arg10 arg11 arg12 arg13 v53_r0) >>= kk) Q) := by
  iintro Hh Hk
  iapply (Scf.wp_for_bind _ _ _ _ _ _ k0_t1_ok ⟨⟩ _ (fun k _ => hold (thr d i) harg9 (zeroed h k)) ?hb) $$ [Hh]
  case hb =>
    intro k acc
    unfold k0_t1_body
    simp only [Prog.lift, Prog.bind_op, Prog.bind_ret, Prog.pure_eq_ret]
    iintro Hh
    iapply (hold_load 𝒱₀ _ none harg9) $$ Hh; iintro Hh
    iapply (hold_store 𝒱₀ _ none harg9) $$ Hh; iintro Hh
    rw [wp_ret]; imodintro
    rw [zeroed_step]
    iexact Hh
  · have e : zeroed h 0 = h := by funext x; unfold zeroed; rw [if_neg (by omega)]
    rw [e]; iexact Hh
  iintro %acc Hh
  iapply Hk
  have e : zeroed h (Scf.trips k0_t1_loop.lb k0_t1_loop.ub k0_t1_loop.st) = hists (F := F) (fun _ => Scalar.ofBits .f32 0#32) (fun _ => 0#32) i 0 := by
    funext x; unfold zeroed
    rw [if_pos]; · rfl
    have : (x 0).val < 9728 := (x 0).isLt
    have e : Scf.trips k0_t1_loop.lb k0_t1_loop.ub k0_t1_loop.st = 608 := by decide
    rw [e]; omega
  rw [e]; iexact Hh

theorem t3_loop_wp (v29 a b : BitVec 32) (t2 : Fin k0_t2_loop.trips) (ck : Vec F S19x2048 .f32) (lb : Vec F S2048 .i32) (h : Vec F S9728 .f32) (hok : ∀ g, Ok ck lb g)
    {α : Type} {kk : Unit → Prog (TpuEff nD τ sig (Elt F) Λ₀ (thr d i).2) α} {Q : α → sProp 𝕄} :
    iprop(hold (thr d i) harg5 ck ∗ hold (thr d i) harg7 lb ∗ hold (thr d i) harg9 h)
      ⊢ iprop((iprop(hold (thr d i) harg5 ck ∗ hold (thr d i) harg7 lb ∗ hold (thr d i) harg9 (chunk ck lb h)) -∗ wp frame (wpE (defs₀ (F := F)) 𝒱₀ (thr d i) none) Set.univ (kk ⟨⟩) Q)
        -∗ wp frame (wpE (defs₀ (F := F)) 𝒱₀ (thr d i) none) Set.univ
          (Scf.Loop.for k0_t3_loop k0_t3_ok ⟨⟩ (k0_t3_body (F := F) i arg2 harg2 arg3 harg3 arg4 harg4 arg5 harg5 arg6 harg6 arg7 harg7 arg8 harg8 arg9 harg9 arg10 arg11 arg12 arg13 v53_r0 v29
            k0_pay92 k0_pay93 (iota .scVector S16 32 [0] iota_S16_d0_w32_scVector) a b t2) >>= kk) Q) := by
  iintro H Hk
  iapply (Scf.wp_for_bind _ _ _ _ _ _ k0_t3_ok ⟨⟩ _ (fun k _ => iprop(hold (thr d i) harg5 ck ∗ hold (thr d i) harg7 lb ∗ hold (thr d i) harg9 (grps ck lb h k))) ?hb) $$ [H]
  case hb =>
    intro k acc
    have e : grps ck lb h (k.val + 1) = grp ck lb k (grps ck lb h k.val) := dif_pos k.isLt
    rw [e]
    exact t3_wp d i arg2 harg2 arg3 harg3 arg4 harg4 arg5 harg5 arg6 harg6 arg7 harg7 arg8 harg8 arg9 harg9 arg10 arg11 arg12 arg13 v53_r0 v29 a b t2 k ck lb _ (hok k)
  · iexact H
  iintro %acc H
  iapply Hk
  iexact H

theorem t4_loop_wp (t2 : Fin k0_t2_loop.trips) (ck : Vec F S19x2048 .f32) (lb : Vec F S2048 .i32) (h : Vec F S9728 .f32) (hok : ∀ g, Ok ck lb g)
    {α : Type} {kk : Unit → Prog (TpuEff nD τ sig (Elt F) Λ₀ (thr d i).2) α} {Q : α → sProp 𝕄} :
    iprop(hold (thr d i) harg6 ck ∗ hold (thr d i) harg8 lb ∗ hold (thr d i) harg9 h)
      ⊢ iprop((iprop(hold (thr d i) harg6 ck ∗ hold (thr d i) harg8 lb ∗ hold (thr d i) harg9 (chunk ck lb h)) -∗ wp frame (wpE (defs₀ (F := F)) 𝒱₀ (thr d i) none) Set.univ (kk ⟨⟩) Q)
        -∗ wp frame (wpE (defs₀ (F := F)) 𝒱₀ (thr d i) none) Set.univ
          (Scf.Loop.for k0_t4_loop k0_t4_ok ⟨⟩ (k0_t4_body (F := F) i arg2 harg2 arg3 harg3 arg4 harg4 arg5 harg5 arg6 harg6 arg7 harg7 arg8 harg8 arg9 harg9 arg10 arg11 arg12 arg13 v53_r0
            k0_pay92 k0_pay93 (iota .scVector S16 32 [0] iota_S16_d0_w32_scVector)) >>= kk) Q) := by
  have e : (k0_t4_body (F := F) i arg2 harg2 arg3 harg3 arg4 harg4 arg5 harg5 arg6 harg6 arg7 harg7 arg8 harg8 arg9 harg9 arg10 arg11 arg12 arg13 v53_r0
            k0_pay92 k0_pay93 (iota .scVector S16 32 [0] iota_S16_d0_w32_scVector))
      = k0_t3_body i arg2 harg2 arg3 harg3 arg4 harg4 arg6 harg6 arg5 harg5 arg8 harg8 arg7 harg7 arg9 harg9 arg10 arg11 arg12 arg13 v53_r0 0#32 k0_pay92 k0_pay93
          (iota .scVector S16 32 [0] iota_S16_d0_w32_scVector) 0#32 1#32 t2 :=
    funext fun k => funext fun u => t4_eq_t3 i arg2 harg2 arg3 harg3 arg4 harg4 arg5 harg5 arg6 harg6 arg7 harg7 arg8 harg8 arg9 harg9 arg10 arg11 arg12 arg13 v53_r0 0#32
      k0_pay92 k0_pay93 _ 0#32 1#32 t2 k u
  rw [e]
  exact t3_loop_wp d i arg2 harg2 arg3 harg3 arg4 harg4 arg6 harg6 arg5 harg5 arg8 harg8 arg7 harg7 arg9 harg9 arg10 arg11 arg12 arg13 v53_r0 0#32 0#32 1#32 t2 ck lb h hok

end Body

end Cert.Proof.Tile
-- ==== Proof.Tile.lean ====
/-
  The kernel's task on one tile, whole: the double-buffered loop over the chunks and the copy of the histogram out.
-/
module

public import proofs.«01_k».proof.Proof.TileBody

@[expose] public section

noncomputable section

namespace Cert.Proof.Tile

open Cert.KernelIdeal Cert.KernelIdeal.Gen
open Idealize.ShloMosaic Idealize.ShloMosaic.Transfers Idealize.ShloMosaic.ValueIdx
open Idealize.ShloMosaic.SparseCore.Cfg (HIx)
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "EC" => (countersEmb : UEmb Counters 𝕄)

section Named

variable (d : Dev nD) (i : grid0.Coords)

/-- A share of the logits. -/
def lentL {arg2 : Memref sig .scVector .hbm S4x19x262144 .f32} (h2 : arg2.IsWhole) (q : PosShare TreeShare) (X : Vec F S4x19x262144 .f32) : sProp 𝕄 :=
  arg2.view.loc (thr d i) ↦[Finset.univ]{q} (h2.unread X : Buf (Elt F) (arg2.view.loc (thr d i)))

/-- A share of the labels. -/
def lentB {arg3 : Memref sig .scVector .hbm S4x262144 .i32} (h3 : arg3.IsWhole) (q : PosShare TreeShare) (B : Vec F S4x262144 .i32) : sProp 𝕄 :=
  arg3.view.loc (thr d i) ↦[Finset.univ]{q} (h3.unread B : Buf (Elt F) (arg3.view.loc (thr d i)))

/-- Chunk `n` of the logits on its way into a buffer. -/
def flyL {arg2 : Memref sig .scVector .hbm S4x19x262144 .f32} (h2 : arg2.IsWhole) {dst : Memref sig .scVector .vmem S19x2048 .f32} (hd : dst.IsWhole)
    (sm : DmaSem sig) (q : PosShare TreeShare) (X : Vec F S4x19x262144 .f32) (n : ℕ) : sProp 𝕄 :=
  Fly (thr d i) (srcL arg2 (offL i n) (offL_inb i n)) hd sm q (h2.unread X)

/-- Chunk `n` of the labels on its way into a buffer. -/
def flyB {arg3 : Memref sig .scVector .hbm S4x262144 .i32} (h3 : arg3.IsWhole) {dst : Memref sig .scVector .vmem S2048 .i32} (hd : dst.IsWhole)
    (sm : DmaSem sig) (q : PosShare TreeShare) (B : Vec F S4x262144 .i32) (n : ℕ) : sProp 𝕄 :=
  Fly (thr d i) (srcB arg3 (offB i n) (offB_inb i n)) hd sm q (h3.unread B)

theorem flyL_of {arg2 : Memref sig .scVector .hbm S4x19x262144 .f32} (h2 : arg2.IsWhole) {dst : Memref sig .scVector .vmem S19x2048 .f32} (hd : dst.IsWhole)
    (sm : DmaSem sig) (q : PosShare TreeShare) (X : Vec F S4x19x262144 .f32) (n : ℕ) {off : Fin 3 → ℕ} (inb) (e : off = offL i n) :
    (Fly (thr d i) (srcL arg2 off inb) hd sm q (h2.unread X) : sProp 𝕄) = flyL d i h2 hd sm q X n := by
  subst e; rfl

theorem flyB_of {arg3 : Memref sig .scVector .hbm S4x262144 .i32} (h3 : arg3.IsWhole) {dst : Memref sig .scVector .vmem S2048 .i32} (hd : dst.IsWhole)
    (sm : DmaSem sig) (q : PosShare TreeShare) (B : Vec F S4x262144 .i32) (n : ℕ) {off : Fin 2 → ℕ} (inb) (e : off = offB i n) :
    (Fly (thr d i) (srcB arg3 off inb) hd sm q (h3.unread B) : sProp 𝕄) = flyB d i h3 hd sm q B n := by
  subst e; rfl

variable {α : Type}

theorem issueL {Q : α → sProp 𝕄} {k : PUnit → Prog (TpuEff nD τ sig (Elt F) Λ₀ (thr d i).2) α} {arg2 : Memref sig .scVector .hbm S4x19x262144 .f32} (h2 : arg2.IsWhole) {dst : Memref sig .scVector .vmem S19x2048 .f32} (hd : dst.IsWhole)
    {sm : DmaSem sig} {q : PosShare TreeShare} {X : Vec F S4x19x262144 .f32} (n : ℕ) {off : Fin 3 → ℕ} {inb} (e : off = offL i n) {Y : S19x2048.Idx → Elt F .f32}
    {hsrc : (srcL arg2 off inb).view.WordExact} {hdst : dst.view.WordExact} {hsem : DmaTarget.Typed (nD := nD) (p := (thr d i).2) .hbm (.dma sm) (.here dst)} :
    iprop(lentL d i h2 q X ∗ hold (thr d i) hd Y ∗ semVal (thr d i, .dma sm) 0)
      ⊢ iprop((flyL d i h2 hd sm q X n -∗ wp frame (wpE (defs₀ (F := F)) 𝒱₀ (thr d i) none) Set.univ (k ⟨⟩) Q)
          -∗ wp frame (wpE (defs₀ (F := F)) 𝒱₀ (thr d i) none) Set.univ (.op (.enqueueDma (p := (thr d i).2) (srcL arg2 off inb) (.here dst) (.dma sm) hsrc hdst hsem) k) Q) := by
  rw [← flyL_of d i h2 hd sm q X n inb e]
  exact fly_issue 𝒱₀ (thr d i) none (src := srcL arg2 off inb) (f := h2.unread X) hd (Shape.numel_pos (by decide))

theorem issueB {Q : α → sProp 𝕄} {k : PUnit → Prog (TpuEff nD τ sig (Elt F) Λ₀ (thr d i).2) α} {arg3 : Memref sig .scVector .hbm S4x262144 .i32} (h3 : arg3.IsWhole) {dst : Memref sig .scVector .vmem S2048 .i32} (hd : dst.IsWhole)
    {sm : DmaSem sig} {q : PosShare TreeShare} {B : Vec F S4x262144 .i32} (n : ℕ) {off : Fin 2 → ℕ} {inb} (e : off = offB i n) {Y : S2048.Idx → Elt F .i32}
    {hsrc : (srcB arg3 off inb).view.WordExact} {hdst : dst.view.WordExact} {hsem : DmaTarget.Typed (nD := nD) (p := (thr d i).2) .hbm (.dma sm) (.here dst)} :
    iprop(lentB d i h3 q B ∗ hold (thr d i) hd Y ∗ semVal (thr d i, .dma sm) 0)
      ⊢ iprop((flyB d i h3 hd sm q B n -∗ wp frame (wpE (defs₀ (F := F)) 𝒱₀ (thr d i) none) Set.univ (k ⟨⟩) Q)
          -∗ wp frame (wpE (defs₀ (F := F)) 𝒱₀ (thr d i) none) Set.univ (.op (.enqueueDma (p := (thr d i).2) (srcB arg3 off inb) (.here dst) (.dma sm) hsrc hdst hsem) k) Q) := by
  rw [← flyB_of d i h3 hd sm q B n inb e]
  exact fly_issue 𝒱₀ (thr d i) none (src := srcB arg3 off inb) (f := h3.unread B) hd (Shape.numel_pos (by decide))

variable {O : CellTallies nD τ sig (HIx 1)} {W : Waits sig (HIx 1)}

theorem waitL {Q : α → sProp 𝕄} {k : PUnit → Prog (TpuEff nD τ sig (Elt F) Λ₀ (thr d i).2) α} {arg2 : Memref sig .scVector .hbm S4x19x262144 .f32} (h2 : arg2.IsWhole) {dst : Memref sig .scVector .vmem S19x2048 .f32} (hd : dst.IsWhole)
    {sm : DmaSem sig} {q : PosShare TreeShare} {X : Vec F S4x19x262144 .f32} {n : ℕ}
    {srcw : Memref sig .scVector .hbm S19x2048 .f32} {hsrc : srcw.view.WordExact} {hdst : dst.view.WordExact} :
    iprop(flyL d i h2 hd sm q X n ∗ Owing (thr d i) O W ∗ MayWaits (thr d i) none O)
      ⊢ iprop((iprop(lentL d i h2 q X ∗ hold (thr d i) hd (ckOf X i n) ∗ semVal (thr d i, .dma sm) 0 ∗ Owing (thr d i) O W)
            -∗ wp frame (wpE (defs₀ (F := F)) 𝒱₀ (thr d i) none) Set.univ (k ⟨⟩) Q)
          -∗ wp frame (wpE (defs₀ (F := F)) 𝒱₀ (thr d i) none) Set.univ (.op (.waitDma2 sm srcw dst hsrc hdst) k) Q) := by
  rw [← read_srcL h2 X i n]
  exact fly_wait 𝒱₀ (thr d i) none hd

theorem waitB {Q : α → sProp 𝕄} {k : PUnit → Prog (TpuEff nD τ sig (Elt F) Λ₀ (thr d i).2) α} {arg3 : Memref sig .scVector .hbm S4x262144 .i32} (h3 : arg3.IsWhole) {dst : Memref sig .scVector .vmem S2048 .i32} (hd : dst.IsWhole)
    {sm : DmaSem sig} {q : PosShare TreeShare} {B : Vec F S4x262144 .i32} {n : ℕ}
    {srcw : Memref sig .scVector .hbm S2048 .i32} {hsrc : srcw.view.WordExact} {hdst : dst.view.WordExact} :
    iprop(flyB d i h3 hd sm q B n ∗ Owing (thr d i) O W ∗ MayWaits (thr d i) none O)
      ⊢ iprop((iprop(lentB d i h3 q B ∗ hold (thr d i) hd (lbOf B i n) ∗ semVal (thr d i, .dma sm) 0 ∗ Owing (thr d i) O W)
            -∗ wp frame (wpE (defs₀ (F := F)) 𝒱₀ (thr d i) none) Set.univ (k ⟨⟩) Q)
          -∗ wp frame (wpE (defs₀ (F := F)) 𝒱₀ (thr d i) none) Set.univ (.op (.waitDma2 sm srcw dst hsrc hdst) k) Q) := by
  rw [← read_srcB h3 B i n]
  exact fly_wait 𝒱₀ (thr d i) none hd

end Named

section Body

variable (d : Dev nD) (i : grid0.Coords) (arg2 : Memref sig .scVector .hbm S4x19x262144 .f32) (harg2 : arg2.IsWhole) (arg3 : Memref sig .scVector .hbm S4x262144 .i32) (harg3 : arg3.IsWhole) (arg4 : Memref sig .scVector .hbm S32x9728 .f32) (harg4 : arg4.IsWhole) (arg5 : Memref sig .scVector .vmem S19x2048 .f32) (harg5 : arg5.IsWhole) (arg6 : Memref sig .scVector .vmem S19x2048 .f32) (harg6 : arg6.IsWhole) (arg7 : Memref sig .scVector .vmem S2048 .i32) (harg7 : arg7.IsWhole) (arg8 : Memref sig .scVector .vmem S2048 .i32) (harg8 : arg8.IsWhole) (arg9 : Memref sig .scVector .vmem S9728 .f32) (harg9 : arg9.IsWhole) (arg10 arg11 arg12 arg13 v53_r0 : DmaSems sig S_)
variable (X : Vec F S4x19x262144 .f32) (B : Vec F S4x262144 .i32) (q q' : PosShare TreeShare)
variable (O : CellTallies nD τ sig (HIx 1)) (W : Waits sig (HIx 1))

/-- Before trip `g` of the loop over chunk pairs: chunk `2 g` is on its way into the first buffer pair, the second is
    free, the histogram holds the chunks before. -/
def inv2 (g : ℕ) : sProp 𝕄 :=
  iprop(flyL d i harg2 harg5 arg10.sem q X (2 * g) ∗ flyB d i harg3 harg7 arg12.sem q B (2 * g)
    ∗ lentL d i harg2 q' X ∗ lentB d i harg3 q' B
    ∗ (∃ Y : Vec F S19x2048 .f32, hold (thr d i) harg6 Y) ∗ (∃ Y : Vec F S2048 .i32, hold (thr d i) harg8 Y)
    ∗ semVal (thr d i, .dma arg11.sem) 0 ∗ semVal (thr d i, .dma arg13.sem) 0
    ∗ hold (thr d i) harg9 (hists X B i (2 * g)) ∗ Owing (thr d i) O W ∗ MayWaits (thr d i) none O)

set_option maxHeartbeats 4000000 in
theorem t2_wp (v29 : BitVec 32) (hok : ∀ n g, Ok (ckOf X i n) (lbOf B i n) g) (g : Fin k0_t2_loop.trips) (acc : Unit) :
    (inv2 d i arg2 harg2 arg3 harg3 arg5 harg5 arg6 harg6 arg7 harg7 arg8 harg8 arg9 harg9 arg10 arg11 arg12 arg13 X B q q' O W g.val)
      ⊢ wp frame (wpE (defs₀ (F := F)) 𝒱₀ (thr d i) none) Set.univ
          (k0_t2_body (F := F) i arg2 harg2 arg3 harg3 arg4 harg4 arg5 harg5 arg6 harg6 arg7 harg7 arg8 harg8 arg9 harg9 arg10 arg11 arg12 arg13 v53_r0 v29
            k0_pay92 k0_pay93 (iota .scVector S16 32 [0] iota_S16_d0_w32_scVector) g acc)
          fun _ => inv2 d i arg2 harg2 arg3 harg3 arg5 harg5 arg6 harg6 arg7 harg7 arg8 harg8 arg9 harg9 arg10 arg11 arg12 arg13 X B q q' O W (g.val + 1) := by
  unfold k0_t2_body
  simp only [k0_part11_eq_skeleton]
  unfold k0_part11_skel
  simp only [Prog.lift, Prog.bind_op, Prog.bind_ret, Prog.pure_eq_ret, Prog.bind_assoc]
  unfold inv2
  iintro ⟨Hf5, Hf7, HL, HB, ⟨%Y6, H6⟩, ⟨%Y8, H8⟩, Hs11, Hs13, Hh, HO, #Hmw⟩
  iapply (issueL d i harg2 harg6 (2 * g.val + 1) (off4_eq i g)) $$ [HL H6 Hs11]
  · isplitl [HL]; · iexact HL
    isplitl [H6] <;> iassumption
  iintro Hf6
  iapply (issueB d i harg3 harg8 (2 * g.val + 1) (off5_eq i g)) $$ [HB H8 Hs13]
  · isplitl [HB]; · iexact HB
    isplitl [H8] <;> iassumption
  iintro Hf8
  iapply (waitL d i harg2 harg5) $$ [Hf5 HO]
  · isplitl [Hf5]; · iexact Hf5
    isplitl [HO]; · iexact HO
    iexact Hmw
  iintro ⟨HL, H5, Hs10, HO⟩
  iapply (waitB d i harg3 harg7) $$ [Hf7 HO]
  · isplitl [Hf7]; · iexact Hf7
    isplitl [HO]; · iexact HO
    iexact Hmw
  iintro ⟨HB, H7, Hs12, HO⟩
  iapply (t3_loop_wp d i arg2 harg2 arg3 harg3 arg4 harg4 arg5 harg5 arg6 harg6 arg7 harg7 arg8 harg8 arg9 harg9 arg10 arg11 arg12 arg13 v53_r0 v29 0#32 1#32 g _ _ _ (hok (2 * g.val))) $$ [H5 H7 Hh]
  · isplitl [H5]; · iexact H5
    isplitl [H7] <;> iassumption
  iintro ⟨H5, H7, Hh⟩
  iapply (issueL d i harg2 harg5 (2 * g.val + 2) (off28_eq i g)) $$ [HL H5 Hs10]
  · isplitl [HL]; · iexact HL
    isplitl [H5] <;> iassumption
  iintro Hf5
  iapply (issueB d i harg3 harg7 (2 * g.val + 2) (off29_eq i g)) $$ [HB H7 Hs12]
  · isplitl [HB]; · iexact HB
    isplitl [H7] <;> iassumption
  iintro Hf7
  iapply (waitL d i harg2 harg6) $$ [Hf6 HO]
  · isplitl [Hf6]; · iexact Hf6
    isplitl [HO]; · iexact HO
    iexact Hmw
  iintro ⟨HL, H6, Hs11, HO⟩
  iapply (waitB d i harg3 harg8) $$ [Hf8 HO]
  · isplitl [Hf8]; · iexact Hf8
    isplitl [HO]; · iexact HO
    iexact Hmw
  iintro ⟨HB, H8, Hs13, HO⟩
  iapply (t4_loop_wp d i arg2 harg2 arg3 harg3 arg4 harg4 arg5 harg5 arg6 harg6 arg7 harg7 arg8 harg8 arg9 harg9 arg10 arg11 arg12 arg13 v53_r0 g _ _ _ (hok (2 * g.val + 1))) $$ [H6 H8 Hh]
  · isplitl [H6]; · iexact H6
    isplitl [H8] <;> iassumption
  iintro ⟨H6, H8, Hh⟩
  rw [wp_ret]; imodintro
  isplitl [Hf5]; · iexact Hf5
  isplitl [Hf7]; · iexact Hf7
  isplitl [HL]; · iexact HL
  isplitl [HB]; · iexact HB
  isplitl [H6]; · iexists _; iexact H6
  isplitl [H8]; · iexists _; iexact H8
  isplitl [Hs11]; · iexact Hs11
  isplitl [Hs13]; · iexact Hs13
  isplitl [Hh]; · iexact Hh
  isplitl [HO]; · iexact HO
  iexact Hmw

/-- The tile's row of the result. -/
abbrev rowOut (arg4 : Memref sig .scVector .hbm S32x9728 .f32) (i : grid0.Coords) : Memref sig .scVector .hbm S9728 .f32 :=
  (arg4.slice (Rect.unit (s := S32x9728) (k0_off52 i) S1x9728.size (k0_off52_inb i)) (fun _ => rfl)).squeeze S9728 squeezes_S1x9728_S9728

/-- What the copy out lands in the row. -/
theorem land_out {arg9 : Memref sig .scVector .vmem S9728 .f32} (h9 : arg9.IsWhole) (H : Vec F S9728 .f32) (fo : Buf (Elt F) ((rowOut arg4 i).view.loc (thr d i))) :
    ((rowOut arg4 i).view.loc (thr d i) ↦[(rowOut arg4 i).view.set]{fullShare}
        (rowOut arg4 i).view.write (Elt F) fo (ReadAs.same.apply (arg9.view.read (Elt F) (h9.unread H))) Finset.univ : sProp 𝕄)
      ⊢ ((rowOut arg4 i).view.loc (thr d i) ↦[(rowOut arg4 i).view.set]{fullShare} (rowOut arg4 i).view.write (Elt F) fo H Finset.univ) := by
  have e : ReadAs.same.apply (arg9.view.read (Elt F) (h9.unread H)) = H := h9.read_unread H
  rw [e]

set_option maxHeartbeats 4000000 in
/-- The whole task. -/
theorem tile_wp (hok : ∀ n g, Ok (ckOf X i n) (lbOf B i n) g) (Y5 Y6 : Vec F S19x2048 .f32) (Y7 Y8 : Vec F S2048 .i32) (Y9 : Vec F S9728 .f32)
    (fo : Buf (Elt F) ((rowOut arg4 i).view.loc (thr d i))) :
    iprop(MayWaits (thr d i) none O
      ∗ (lentL d i harg2 q X ∗ lentB d i harg3 q B ∗ lentL d i harg2 q' X ∗ lentB d i harg3 q' B)
      ∗ ((rowOut arg4 i).view.loc (thr d i) ↦[(rowOut arg4 i).view.set]{fullShare} fo)
      ∗ (hold (thr d i) harg5 Y5 ∗ hold (thr d i) harg6 Y6 ∗ hold (thr d i) harg7 Y7 ∗ hold (thr d i) harg8 Y8 ∗ hold (thr d i) harg9 Y9)
      ∗ (semVal (thr d i, .dma arg10.sem) 0 ∗ semVal (thr d i, .dma arg11.sem) 0 ∗ semVal (thr d i, .dma arg12.sem) 0 ∗ semVal (thr d i, .dma arg13.sem) 0
        ∗ semVal (thr d i, .dma v53_r0.sem) 0)
      ∗ Owing (thr d i) O W)
      ⊢ wp frame (wpE (defs₀ (F := F)) 𝒱₀ (thr d i) none) Set.univ
          (cc0_hist_kernel (F := F) i arg2 harg2 arg3 harg3 arg4 harg4 arg5 harg5 arg6 harg6 arg7 harg7 arg8 harg8 arg9 harg9 arg10 arg11 arg12 arg13 v53_r0)
          fun _ => iprop((lentL d i harg2 q X ∗ lentB d i harg3 q B ∗ lentL d i harg2 q' X ∗ lentB d i harg3 q' B)
            ∗ ((rowOut arg4 i).view.loc (thr d i) ↦[(rowOut arg4 i).view.set]{fullShare} (rowOut arg4 i).view.write (Elt F) fo (hists X B i 16) Finset.univ)
            ∗ ((∃ Y : Vec F S19x2048 .f32, hold (thr d i) harg5 Y) ∗ (∃ Y : Vec F S19x2048 .f32, hold (thr d i) harg6 Y)
              ∗ (∃ Y : Vec F S2048 .i32, hold (thr d i) harg7 Y) ∗ (∃ Y : Vec F S2048 .i32, hold (thr d i) harg8 Y) ∗ (∃ Y : Vec F S9728 .f32, hold (thr d i) harg9 Y))
            ∗ (semVal (thr d i, .dma arg10.sem) 0 ∗ semVal (thr d i, .dma arg11.sem) 0 ∗ semVal (thr d i, .dma arg12.sem) 0 ∗ semVal (thr d i, .dma arg13.sem) 0
              ∗ semVal (thr d i, .dma v53_r0.sem) 0)
            ∗ Owing (thr d i) O W) := by
  simp only [cc0_hist_kernel_eq_skeleton]
  unfold cc0_hist_kernel_skel
  simp only [k0_part12_eq_skeleton]
  unfold k0_part12_skel
  simp only [Prog.lift, Prog.bind_op, Prog.bind_ret, Prog.pure_eq_ret, Prog.bind_assoc]
  iintro ⟨#Hmw, ⟨HL, HB, HL', HB'⟩, Ho, ⟨H5, H6, H7, H8, H9⟩, ⟨Hs10, Hs11, Hs12, Hs13, Hsr⟩, HO⟩
  iapply (t1_wp d i arg2 harg2 arg3 harg3 arg4 harg4 arg5 harg5 arg6 harg6 arg7 harg7 arg8 harg8 arg9 harg9 arg10 arg11 arg12 arg13 v53_r0 _) $$ H9
  iintro H9
  iapply (issueL d i harg2 harg5 0 (off2_eq i)) $$ [HL H5 Hs10]
  · isplitl [HL]; · iexact HL
    isplitl [H5] <;> iassumption
  iintro Hf5
  iapply (issueB d i harg3 harg7 0 (off3_eq i)) $$ [HB H7 Hs12]
  · isplitl [HB]; · iexact HB
    isplitl [H7] <;> iassumption
  iintro Hf7
  iapply (Scf.wp_for_bind _ _ _ _ _ _ k0_t2_ok ⟨⟩ _
    (fun k _ => inv2 d i arg2 harg2 arg3 harg3 arg5 harg5 arg6 harg6 arg7 harg7 arg8 harg8 arg9 harg9 arg10 arg11 arg12 arg13 X B q q' O W k) ?hb) $$ [Hf5 Hf7 HL' HB' H6 H8 Hs11 Hs13 H9 HO]
  case hb =>
    intro k acc
    exact t2_wp d i arg2 harg2 arg3 harg3 arg4 harg4 arg5 harg5 arg6 harg6 arg7 harg7 arg8 harg8 arg9 harg9 arg10 arg11 arg12 arg13 v53_r0 X B q q' O W _ hok k acc
  · unfold inv2
    isplitl [Hf5]; · iexact Hf5
    isplitl [Hf7]; · iexact Hf7
    isplitl [HL']; · iexact HL'
    isplitl [HB']; · iexact HB'
    isplitl [H6]; · iexists _; iexact H6
    isplitl [H8]; · iexists _; iexact H8
    isplitl [Hs11]; · iexact Hs11
    isplitl [Hs13]; · iexact Hs13
    isplitl [H9]; · iexact H9
    isplitl [HO]; · iexact HO
    iexact Hmw
  iintro %acc HI
  have e8 : Scf.trips k0_t2_loop.lb k0_t2_loop.ub k0_t2_loop.st = 8 := by decide
  rw [e8]
  unfold inv2
  icases HI with ⟨Hf5, Hf7, HL', HB', H6, H8, Hs11, Hs13, H9, HO, -⟩
  iapply (waitL d i harg2 harg5) $$ [Hf5 HO]
  · isplitl [Hf5]; · iexact Hf5
    isplitl [HO]; · iexact HO
    iexact Hmw
  iintro ⟨HL, H5, Hs10, HO⟩
  iapply (waitB d i harg3 harg7) $$ [Hf7 HO]
  · isplitl [Hf7]; · iexact Hf7
    isplitl [HO]; · iexact HO
    iexact Hmw
  iintro ⟨HB, H7, Hs12, HO⟩
  unfold hold
  ihave H9' := (pointsTo_split_subset (Finset.subset_univ arg9.view.set)).1 $$ H9
  icases H9' with ⟨H9, H9r⟩
  iapply (wp_dmaLocal EC 𝒱₀ (thr d i) none (src := arg9) (dst := rowOut arg4 i) (Sd := (rowOut arg4 i).view.set) none (rowOut arg4 i).view.dmaCredit rfl ((rowOut arg4 i).view.dmaCredit_pos (Shape.numel_pos (by decide))) (Finset.Subset.refl _)) $$ [H9 Ho Hsr]
  · isplitl [H9]; · iexact H9
    isplitl [Ho] <;> iassumption
  iintro Hf
  unfold Owing
  icases HO with ⟨%W', %hW, HO⟩
  ihave Hm := (MayWaits.elim (.dma v53_r0.sem)) $$ Hmw
  iapply (wp_waitLocalO EC 𝒱₀ (thr d i) none none rfl) $$ [Hf HO Hm]
  · isplitl [Hf]; · iexact Hf
    isplitl [HO] <;> iassumption
  iintro ⟨⟨Ho, H9⟩, Hsr, HO⟩
  rw [wp_ret]; imodintro
  isplitl [HL HB HL' HB']
  · isplitl [HL]; · iexact HL
    isplitl [HB]; · iexact HB
    isplitl [HL'] <;> iassumption
  isplitl [Ho]
  · iapply (land_out d i arg4 harg9) $$ Ho
  isplitl [H5 H6 H7 H8 H9 H9r]
  · isplitl [H5]; · iexists _; iexact H5
    isplitl [H6]; · iexact H6
    isplitl [H7]; · iexists _; iexact H7
    isplitl [H8]; · iexact H8
    iexists (hists X B i 16)
    iapply (pointsTo_split_subset (Finset.subset_univ arg9.view.set)).2
    isplitl [H9] <;> iassumption
  isplitl [Hs10 Hs11 Hs12 Hs13 Hsr]
  · isplitl [Hs10]; · iexact Hs10
    isplitl [Hs11]; · iexact Hs11
    isplitl [Hs12]; · iexact Hs12
    isplitl [Hs13] <;> iassumption
  iexists (insert (SemLoc.dma v53_r0.sem, none) W')
  isplitr
  · ipureintro
    intro p hp
    rcases Finset.mem_insert.mp hp with h | h
    · right; rw [h]
    · exact hW p h
  · iexact HO

end Body

end Cert.Proof.Tile
-- ==== Proof.Sc.lean ====
/-
  The SparseCore call as the launch sees it: what each tile is handed and hands back, the tiles' shares of the two
  operands and their rows of the result.
-/
module

public import proofs.«01_k».proof.Proof.Tile
public import Idealize.ShloMosaic.Lib.SparseCore.Quiescent

@[expose] public section

noncomputable section

namespace Cert.Proof.Tile

open Cert.KernelIdeal Cert.KernelIdeal.Gen
open Idealize.ShloMosaic Idealize.ShloMosaic.Transfers Idealize.ShloMosaic.ValueIdx
open Idealize.ShloMosaic.SparseCore.Cfg (HIx ownCells ownSems0 ownBufs ownRefs mem_ownCells)
open Idealize.ShloMosaic.SparseCore (V)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## Tiles, rows and shares -/

def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a
  match a with
  | 0 => rfl
  | 1 => rfl

abbrev Xm : Memref sig .scVector .hbm S4x19x262144 .f32 := Memref.whole main_v0_scv
abbrev Bm : Memref sig .scVector .hbm S4x262144 .i32 := Memref.whole main_v1_scv
abbrev Om : Memref sig .scVector .hbm S32x9728 .f32 := Memref.whole main_v2_scv

abbrev xLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

/-- The tile that writes row `w` of the result. -/
def tileOf (w : Fin 32) : grid0.Coords := coordsV ⟨w.val % 2, Nat.mod_lt _ (by decide)⟩ ⟨w.val / 2, by have := w.isLt; show _ < 16; omega⟩

/-- The result of the call: row by row, the histogram of the tile. -/
def outB (X : Vec F S4x19x262144 .f32) (B : Vec F S4x262144 .i32) : Vec F S32x9728 .f32 :=
  fun y => hists X B (tileOf (y 0)) 16 (ix1 (y 1))

/-- Tile `i`'s row, as a set of elements. -/
def rowSet (i : grid0.Coords) : Finset S32x9728.Idx := (rowOut Om i).view.set

theorem rowSet_rect (i : grid0.Coords) : rowSet i = (Rect.unit (s := S32x9728) (k0_off52 i) S1x9728.size (k0_off52_inb i)).set := by
  show (((Om : Memref sig .scVector .hbm S32x9728 .f32).view.slice (Rect.unit (s := S32x9728) (k0_off52 i) S1x9728.size (k0_off52_inb i))).reshape S9728 squeezes_S1x9728_S9728.numel_eq).set = _
  rw [View.set_reshape]
  show ((View.whole (main_v2_scv : Ref sig .scVector)).slice _).set = _
  rw [View.set_slice]; exact Finset.map_refl

theorem mem_rowSet (i : grid0.Coords) (y : S32x9728.Idx) : y ∈ rowSet i ↔ (y 0).val = 2 * (i 1).val + (i 0).val := by
  rw [rowSet_rect, Rect.mem_set_unit]
  have e := k0_off52_eq i
  have e0 : k0_off52 i 0 = 2 * (i 1).val + (i 0).val := congrFun e 0
  have e1 : k0_off52 i 1 = 0 := congrFun e 1
  constructor
  · intro h
    have h0 := h 0
    have h0' : S1x9728.size 0 = 1 := rfl
    omega
  · intro h a
    match a with
    | ⟨0, _⟩ =>
      have h0' : S1x9728.size ⟨0, by decide⟩ = 1 := rfl
      exact ⟨by show k0_off52 i 0 ≤ (y 0).val; omega, by show (y 0).val < k0_off52 i 0 + _; omega⟩
    | ⟨1, _⟩ =>
      have h1 : (y 1).val < 9728 := (y 1).isLt
      exact ⟨by show k0_off52 i 1 ≤ (y 1).val; omega, by show (y 1).val < k0_off52 i 1 + 9728; omega⟩

theorem tileOf_row (i : grid0.Coords) (w : Fin 32) (h : w.val = 2 * (i 1).val + (i 0).val) : tileOf w = i := by
  have h0 : (i 0).val < 2 := (i 0).isLt
  rw [← coordsV_eta i]
  unfold tileOf
  congr 1
  · exact Fin.ext (by show w.val % 2 = _; omega)
  · exact Fin.ext (by show w.val / 2 = _; omega)

/-- A write through the row is found at the row's elements. -/
theorem write_at (i : grid0.Coords) (fo : Vec F S32x9728 .f32) (H : Vec F S9728 .f32) (x : S9728.Idx) :
    (rowOut Om i).view.write (Elt F) fo H Finset.univ ((rowOut Om i).view.emb x) = H x := by
  have h := View.write_emb_of_mem (v := (rowOut Om i).view) (Val := Elt F) (M := Finset.univ) fo H (Finset.mem_univ x)
  exact h

/-- Writing the histogram through the row leaves the row at the call's result. -/
theorem write_row (X : Vec F S4x19x262144 .f32) (B : Vec F S4x262144 .i32) (i : grid0.Coords) (fo : Vec F S32x9728 .f32) (y : S32x9728.Idx) (hy : y ∈ rowSet i) :
    (rowOut Om i).view.write (Elt F) fo (hists X B i 16) Finset.univ y = outB X B y := by
  obtain ⟨x, -, rfl⟩ := Finset.mem_map.mp hy
  have hr : ((rowOut Om i).view.emb x : S32x9728.Idx) = ix2 ⟨2 * (i 1).val + (i 0).val, by have h0 : (i 0).val < 2 := (i 0).isLt; have h1 : (i 1).val < 16 := (i 1).isLt; show _ < 32; omega⟩ (x 0) := by
    funext a
    have e := Shape.reshapeEquiv_cons_one (n := 1) (d := ![9728]) squeezes_S1x9728_S9728.numel_eq x
    have e2 := k0_off52_eq i
    refine Fin.ext ?_
    refine (congrArg (fun z => ((Rect.unit (s := S32x9728) (k0_off52 i) S1x9728.size (k0_off52_inb i)).emb z a).val) e).trans ?_
    match a with
    | ⟨0, _⟩ => show k0_off52 i 0 + 1 * 0 = _; rw [show k0_off52 i 0 = 2 * (i 1).val + (i 0).val from congrFun e2 0]; rfl
    | ⟨1, _⟩ => show k0_off52 i 1 + 1 * (x 0).val = _; rw [show k0_off52 i 1 = 0 from congrFun e2 1]; simp
  refine (write_at i fo _ x).trans ?_
  unfold outB
  rw [hr, tileOf_row i _ rfl]
  congr 1
  funext a
  match a with
  | ⟨0, _⟩ => rfl

theorem rows_disjoint : ∀ p ∈ (Finset.univ : Finset (Fin 2 × Fin 16)), ∀ p' ∈ (Finset.univ : Finset (Fin 2 × Fin 16)), p ≠ p' →
    Disjoint (rowSet (coordsV p.1 p.2)) (rowSet (coordsV p'.1 p'.2)) := by
  intro p _ p' _ hne
  refine Finset.disjoint_left.mpr fun y h h' => hne ?_
  have e := (mem_rowSet _ y).mp h
  have e' := (mem_rowSet _ y).mp h'
  have a1 : (coordsV p.1 p.2 1).val = p.2.val := rfl
  have a0 : (coordsV p.1 p.2 0).val = p.1.val := rfl
  have b1 : (coordsV p'.1 p'.2 1).val = p'.2.val := rfl
  have b0 : (coordsV p'.1 p'.2 0).val = p'.1.val := rfl
  have l := p.1.isLt
  have l' := p'.1.isLt
  exact Prod.ext (Fin.ext (by omega)) (Fin.ext (by omega))

theorem rows_cover : (Finset.univ : Finset (Fin 2 × Fin 16)).biUnion (fun p => rowSet (coordsV p.1 p.2)) = (Finset.univ : Finset S32x9728.Idx) := by
  refine Finset.eq_univ_of_forall fun y => ?_
  have l : (y 0).val < 32 := (y 0).isLt
  refine Finset.mem_biUnion.mpr ⟨(⟨(y 0).val % 2, by omega⟩, ⟨(y 0).val / 2, by omega⟩), Finset.mem_univ _, (mem_rowSet _ y).mpr ?_⟩
  show (y 0).val = 2 * ((y 0).val / 2) + (y 0).val % 2
  omega

/-- The shares: of a SparseCore, of a tile, and the two a tile keeps in flight. -/
def qc (c : Fin 2) : PosShare TreeShare := dealOf fullShare Finset.univ c
def qs (c : Fin 2) (s : Fin 16) : PosShare TreeShare := dealOf (qc c) Finset.univ s
def qb (c : Fin 2) (s : Fin 16) (b : Fin 2) : PosShare TreeShare := dealOf (qs c s) Finset.univ b

section Deal

variable {ℓ : Loc nD τ sig} {I : Finset (Idx ℓ)} {f : Buf (Elt F) ℓ}

theorem deal_cores : (ℓ ↦[I]{fullShare} f : sProp 𝕄) = bigSep Finset.univ fun c : Fin 2 => ℓ ↦[I]{qc c} f :=
  pointsTo_deal Finset.univ Finset.univ_nonempty fullShare

theorem deal_tiles (c : Fin 2) :
    (ℓ ↦[I]{qc c} f : sProp 𝕄) = bigSep Finset.univ fun s : Fin 16 => iprop((ℓ ↦[I]{qb c s 0} f) ∗ ℓ ↦[I]{qb c s 1} f) := by
  rw [pointsTo_deal (Finset.univ : Finset (Fin 16)) Finset.univ_nonempty (qc c)]
  refine bigSep_congr fun s _ => ?_
  rw [pointsTo_deal (Finset.univ : Finset (Fin 2)) Finset.univ_nonempty (dealOf (qc c) Finset.univ s)]
  exact bigSep_univ_eq_bigSepL [(0 : Fin 2), (1 : Fin 2)] (by decide) (by decide) _

theorem deal_rows (d : Dev nD) (g : Buf (Elt F) (oLoc d)) :
    (oLoc d ↦{fullShare} g : sProp 𝕄) = bigSep Finset.univ fun c : Fin 2 => bigSep Finset.univ fun s : Fin 16 => oLoc d ↦[rowSet (coordsV c s)]{fullShare} g := by
  rw [← bigSep_univ_prod (fun p : Fin 2 × Fin 16 => (oLoc d ↦[rowSet (coordsV p.1 p.2)]{fullShare} g : sProp 𝕄)),
    ← pointsTo_biUnion Finset.univ (ℓ := oLoc d) (fun p : Fin 2 × Fin 16 => rowSet (coordsV p.1 p.2)) rows_disjoint, rows_cover]

end Deal

/-! ## What the handshakes carry -/

section Pay

variable (X : Dev nD → Vec F S4x19x262144 .f32) (B : Dev nD → Vec F S4x262144 .i32) (fo : (d : Dev nD) → Buf (Elt F) (oLoc d))

abbrev lents (d : Dev nD) (c : Fin 2) (s : Fin 16) : sProp 𝕄 :=
  iprop(((xLoc d ↦{qb c s 0} X d) ∗ xLoc d ↦{qb c s 1} X d) ∗ (bLoc d ↦{qb c s 0} B d) ∗ bLoc d ↦{qb c s 1} B d)

abbrev tileGo (d : Dev nD) (c : Fin 2) (s : Fin 16) : sProp 𝕄 := iprop(lents X B d c s ∗ oLoc d ↦[rowSet (coordsV c s)]{fullShare} fo d)
abbrev tileTd (d : Dev nD) (c : Fin 2) (s : Fin 16) : sProp 𝕄 := iprop(lents X B d c s ∗ oLoc d ↦[rowSet (coordsV c s)]{fullShare} outB (X d) (B d))

abbrev coreHeld (g : (d : Dev nD) → Buf (Elt F) (oLoc d)) (d : Dev nD) (c : Fin 2) : sProp 𝕄 :=
  iprop((xLoc d ↦{qc c} X d) ∗ (bLoc d ↦{qc c} B d) ∗ bigSep Finset.univ fun s : Fin 16 => oLoc d ↦[rowSet (coordsV c s)]{fullShare} g d)

/-- Each SparseCore is handed its share of the operands and its tiles' rows, and hands them back with the rows written. -/
def P : (K (F := F)).Pay (nD := nD) (Val := Elt F) (Name := ℕ) (U := UU) where
  st := fun q d c => match q with | 0 => coreHeld X B fo d c
  dn := fun q d c => match q with | 0 => coreHeld X B (fun d => outB (X d) (B d)) d c
  go := fun q d c i => match q with | 0 => tileGo X B fo d c i
  td := fun q d c i => match q with | 0 => tileTd X B d c i
  x := fun _ _ => iprop(emp)

instance P_storable : (P (F := F) X B fo).IsStorable where
  st q d c := match q with | 0 => (inferInstance : BI.Storable (upEmb : UEmb _ 𝕄) (coreHeld X B fo d c))
  dn q d c := match q with | 0 => (inferInstance : BI.Storable (upEmb : UEmb _ 𝕄) (coreHeld X B (fun d => outB (X d) (B d)) d c))
  go q d c i := match q with | 0 => (inferInstance : BI.Storable (upEmb : UEmb _ 𝕄) (tileGo X B fo d c i))
  td q d c i := match q with | 0 => (inferInstance : BI.Storable (upEmb : UEmb _ 𝕄) (tileTd X B d c i))

theorem core_split (g : (d : Dev nD) → Buf (Elt F) (oLoc d)) (d : Dev nD) (c : Fin 2) :
    (coreHeld X B g d c : sProp 𝕄) = bigSep Finset.univ fun s : Fin 16 => iprop(lents X B d c s ∗ oLoc d ↦[rowSet (coordsV c s)]{fullShare} g d) := by
  rw [bigSep_sep', bigSep_sep', ← deal_tiles, ← deal_tiles]
  exact (equiv_iff.mp ⟨BI.sep_assoc, BI.sep_assoc'⟩).symm

theorem vecSplit : (K (F := F)).VecSplit' (P X B fo) 0 := by
  intro d c
  show (coreHeld X B fo d c) ⊢ |={Set.univ}=> iprop((bigSep Finset.univ fun i : Fin 16 => tileGo X B fo d c i)
      ∗ ((bigSep Finset.univ fun i : Fin 16 => tileTd X B d c i) -∗ coreHeld X B (fun d => outB (X d) (B d)) d c))
  rw [core_split X B fo, core_split X B (fun d => outB (X d) (B d))]
  iintro H; imodintro
  isplitl [H]; · iexact H
  iintro H; iexact H

/-- What @main hands the call, and what it gets back. -/
theorem whole_split (g : (d : Dev nD) → Buf (Elt F) (oLoc d)) (d : Dev nD) :
    (bigSep Finset.univ fun c : Fin 2 => coreHeld X B g d c) = (iprop((xLoc d ↦{fullShare} X d) ∗ (bLoc d ↦{fullShare} B d) ∗ oLoc d ↦{fullShare} g d) : sProp 𝕄) := by
  rw [bigSep_sep', bigSep_sep', ← deal_cores, ← deal_cores, ← deal_rows]

end Pay

end Cert.Proof.Tile
-- ==== Proof.Task.lean ====
/-
  The task a tile runs, as the launch asks for it: the tile's own buffers and semaphores are taken out of what it owns,
  the kernel is run, and they are put back.
-/
module

public import proofs.«01_k».proof.Proof.Sc

@[expose] public section

noncomputable section

namespace Cert.Proof.Tile

open Cert.KernelIdeal Cert.KernelIdeal.Gen
open Idealize.ShloMosaic Idealize.ShloMosaic.Transfers Idealize.ShloMosaic.ValueIdx
open Idealize.ShloMosaic.SparseCore.Cfg (HIx ownCells ownSems0 ownBufs ownRefs mem_ownCells)
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

abbrev cV : Fin τ.nSC := (i 0).castLE hcore0
abbrev jV : Fin τ.nSub := (i 1).castLE hsub0

/-- A tile's own DMA semaphore. -/
abbrev cell (s : DmaSems sig S_) : GSem nD τ sig := (thr d i, .dma s.sem)

/-- A tile's own buffer, as the device names it. -/
abbrev own_ (b : Ref sig .scVector) : DevRef τ sig := (Proc.scVector (cV i) (jV i)).devRef b

theorem cell_ne {s t : DmaSems sig S_} (h : (SemLoc.dma s.sem : SemLoc sig) ≠ .dma t.sem) : cell d i s ≠ cell d i t := fun e => h (congrArg Prod.snd e)

theorem cell_mem {s : DmaSems sig S_} (h : (SemLoc.dma s.sem : SemLoc sig).isScoped .scVector = true) : cell d i s ∈ ownCells (thr d i) :=
  (mem_ownCells (g := cell d i s)).mpr ⟨rfl, h⟩

theorem own_ne {a b : Ref sig .scVector} (h : a ≠ b) : own_ i a ≠ own_ i b := fun e => h (Proc.devRef_injective _ e)

abbrev restCells : Finset (GSem nD τ sig) :=
  (((((ownCells (thr d i)).erase (cell d i cc0_scratch5)).erase (cell d i cc0_scratch6)).erase (cell d i cc0_scratch7)).erase (cell d i cc0_scratch8)).erase (cell d i cc0_scoped0)

theorem sems_eq : (ownSems0 (thr d i) : sProp 𝕄)
    = iprop(semVal (cell d i cc0_scratch5) 0 ∗ semVal (cell d i cc0_scratch6) 0 ∗ semVal (cell d i cc0_scratch7) 0 ∗ semVal (cell d i cc0_scratch8) 0
        ∗ semVal (cell d i cc0_scoped0) 0 ∗ bigSep (restCells d i) fun g => semVal g 0) := by
  unfold SparseCore.Cfg.ownSems0
  rw [SparseCore.bigSep_erase' (cell_mem d i (s := cc0_scratch5) (by decide)),
    SparseCore.bigSep_erase' (Finset.mem_erase.mpr ⟨cell_ne d i (s := cc0_scratch6) (by decide), cell_mem d i (by decide)⟩),
    SparseCore.bigSep_erase' (Finset.mem_erase.mpr ⟨cell_ne d i (s := cc0_scratch7) (by decide), Finset.mem_erase.mpr ⟨cell_ne d i (by decide), cell_mem d i (by decide)⟩⟩),
    SparseCore.bigSep_erase' (Finset.mem_erase.mpr ⟨cell_ne d i (s := cc0_scratch8) (by decide), Finset.mem_erase.mpr ⟨cell_ne d i (by decide),
      Finset.mem_erase.mpr ⟨cell_ne d i (by decide), cell_mem d i (by decide)⟩⟩⟩),
    SparseCore.bigSep_erase' (Finset.mem_erase.mpr ⟨cell_ne d i (s := cc0_scoped0) (by decide), Finset.mem_erase.mpr ⟨cell_ne d i (by decide),
      Finset.mem_erase.mpr ⟨cell_ne d i (by decide), Finset.mem_erase.mpr ⟨cell_ne d i (by decide), cell_mem d i (by decide)⟩⟩⟩⟩)]

abbrev restRefs : Finset (DevRef τ sig) :=
  (((((ownRefs (τ := τ) (.scVector (cV i) (jV i))).erase (own_ i cc0_scratch0)).erase (own_ i cc0_scratch1)).erase (own_ i cc0_scratch2)).erase
    (own_ i cc0_scratch3)).erase (own_ i cc0_scratch4)

/-- A scratch buffer at some contents. -/
abbrev scr (b : Ref sig .scVector) : sProp 𝕄 := iprop(∃ f, (thr d i).loc b ↦{fullShare} f)

theorem bufs_eq : (ownBufs (thr d i) : sProp 𝕄)
    = iprop(scr d i cc0_scratch0 ∗ scr d i cc0_scratch1 ∗ scr d i cc0_scratch2 ∗ scr d i cc0_scratch3 ∗ scr d i cc0_scratch4
        ∗ bigSep (restRefs i) fun b => iprop(∃ f, ((d, b) : Loc nD τ sig) ↦{fullShare} f)) := by
  unfold SparseCore.Cfg.ownBufs
  have hm : ∀ b : Ref sig .scVector, (own_ i b).owner = .proc (.scVector (cV i) (jV i)) → own_ i b ∈ ownRefs (τ := τ) (.scVector (cV i) (jV i)) :=
    fun b h => SparseCore.Cfg.mem_ownRefs_of_owner h
  refine (SparseCore.bigSep_erase' (hm cc0_scratch0 rfl)).trans ?_
  rw [SparseCore.bigSep_erase' (Finset.mem_erase.mpr ⟨own_ne i (show cc0_scratch1 ≠ cc0_scratch0 by decide), hm cc0_scratch1 rfl⟩),
    SparseCore.bigSep_erase' (Finset.mem_erase.mpr ⟨own_ne i (show cc0_scratch2 ≠ cc0_scratch1 by decide), Finset.mem_erase.mpr ⟨own_ne i (show cc0_scratch2 ≠ cc0_scratch0 by decide), hm cc0_scratch2 rfl⟩⟩),
    SparseCore.bigSep_erase' (Finset.mem_erase.mpr ⟨own_ne i (show cc0_scratch3 ≠ cc0_scratch2 by decide), Finset.mem_erase.mpr ⟨own_ne i (show cc0_scratch3 ≠ cc0_scratch1 by decide),
      Finset.mem_erase.mpr ⟨own_ne i (show cc0_scratch3 ≠ cc0_scratch0 by decide), hm cc0_scratch3 rfl⟩⟩⟩),
    SparseCore.bigSep_erase' (Finset.mem_erase.mpr ⟨own_ne i (show cc0_scratch4 ≠ cc0_scratch3 by decide), Finset.mem_erase.mpr ⟨own_ne i (show cc0_scratch4 ≠ cc0_scratch2 by decide),
      Finset.mem_erase.mpr ⟨own_ne i (show cc0_scratch4 ≠ cc0_scratch1 by decide), Finset.mem_erase.mpr ⟨own_ne i (show cc0_scratch4 ≠ cc0_scratch0 by decide), hm cc0_scratch4 rfl⟩⟩⟩⟩)]

/-- A whole buffer's raw contents are what it reads. -/
theorem unread_whole {κ : Kind} (b : Ref sig κ) (X : b.ty.shape.Idx → Elt F b.ty.elt) : (Memref.isWhole_whole b).unread (Val := Elt F) X = X :=
  ((Memref.isWhole_whole b).eq_unread (View.read_whole b X)).symm

theorem hold_whole (b : Ref sig .scVector) (X : b.ty.shape.Idx → Elt F b.ty.elt) :
    (hold (thr d i) (Memref.isWhole_whole b) X : sProp 𝕄) = (thr d i).loc b ↦{fullShare} X := by
  unfold hold; rw [unread_whole]

theorem lentL_whole (q : PosShare TreeShare) (X : Vec F S4x19x262144 .f32) :
    (lentL d i (Memref.isWhole_whole main_v0_scv) q X : sProp 𝕄) = xLoc d ↦{q} X := by
  unfold lentL
  exact congrArg (fun Z => (xLoc d ↦[Finset.univ]{q} Z : sProp 𝕄)) (unread_whole main_v0_scv X)

theorem lentB_whole (q : PosShare TreeShare) (B : Vec F S4x262144 .i32) :
    (lentB d i (Memref.isWhole_whole main_v1_scv) q B : sProp 𝕄) = bLoc d ↦{q} B := by
  unfold lentB
  exact congrArg (fun Z => (bLoc d ↦[Finset.univ]{q} Z : sProp 𝕄)) (unread_whole main_v1_scv B)

section Body

variable (X : Dev nD → Vec F S4x19x262144 .f32) (B : Dev nD → Vec F S4x262144 .i32) (fo : (d : Dev nD) → Buf (Elt F) (oLoc d))

/-- What is handed in is what the kernel's run asks for. -/
theorem go_eq : (tileGo X B fo d (i 0) (i 1) : sProp 𝕄)
    = iprop(((lentL d i (Memref.isWhole_whole main_v0_scv) (qb (i 0) (i 1) 0) (X d) ∗ lentL d i (Memref.isWhole_whole main_v0_scv) (qb (i 0) (i 1) 1) (X d))
          ∗ lentB d i (Memref.isWhole_whole main_v1_scv) (qb (i 0) (i 1) 0) (B d) ∗ lentB d i (Memref.isWhole_whole main_v1_scv) (qb (i 0) (i 1) 1) (B d))
        ∗ ((rowOut Om i).view.loc (thr d i) ↦[(rowOut Om i).view.set]{fullShare} fo d)) := by
  rw [lentL_whole, lentL_whole, lentB_whole, lentB_whole]
  unfold tileGo lents
  rw [coordsV_eta]
  rfl

theorem row_done : (((rowOut Om i).view.loc (thr d i) ↦[(rowOut Om i).view.set]{fullShare} (rowOut Om i).view.write (Elt F) (fo d) (hists (X d) (B d) i 16) Finset.univ : sProp 𝕄))
    = ((rowOut Om i).view.loc (thr d i) ↦[(rowOut Om i).view.set]{fullShare} outB (X d) (B d)) :=
  pointsTo_congr fun y hy => write_row (X d) (B d) i (fo d) y hy

theorem tile_body (hF : (K (F := F)).Facts) (hok : ∀ n g, Ok (ckOf (X d) i n) (lbOf (B d) i n) g) (O : CellTallies nD τ sig (HIx 1)) (W : Waits sig (HIx 1))
    (hO : ∀ g, O g none = 0) :
    iprop(levAts (K (F := F)).L (K (F := F)).lev ∗ emp ∗ tileGo X B fo d (i 0) (i 1)
        ∗ scopedBufs (thr d i) ∗ scopedSems0 (thr d i) ∗ owes (thr d i) O W)
      ⊢ wp frame (wpE (defs₀ (F := F)) 𝒱₀ (thr d i) none) Set.univ
          (cc0_hist_kernel i Xm (Memref.isWhole_whole _) Bm (Memref.isWhole_whole _) Om (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0)
          fun _ => iprop(tileTd X B d (i 0) (i 1) ∗ scopedBufs (thr d i) ∗ scopedSems0 (thr d i)
            ∗ ∃ W', ⌜∀ p ∈ W', p ∈ W ∨ p.2 = none⌝ ∗ owes (thr d i) O W') := by
  rw [show tileTd X B d (i 0) (i 1) = tileGo X B (fun d => outB (X d) (B d)) d (i 0) (i 1) from rfl, go_eq, go_eq,
    (K (F := F)).scopedBufs_V hF d (cV i) (jV i), SparseCore.Cfg.scopedSems0_V (Val := Elt F) d (cV i) (jV i), sems_eq, bufs_eq]
  iintro ⟨#Hlv, -, ⟨⟨⟨HL, HL'⟩, HB, HB'⟩, Ho⟩, ⟨⟨%f5, H5⟩, ⟨%f6, H6⟩, ⟨%f7, H7⟩, ⟨%f8, H8⟩, ⟨%f9, H9⟩, Hbufs⟩, ⟨Hs10, Hs11, Hs12, Hs13, Hsr, Hsems⟩, HO⟩
  ihave Hmw := ((K (F := F)).mayWaits_none (thr := thr d i) hO) $$ Hlv
  ihave H5 := (Entails.of_eq (hold_whole (F := F) d i cc0_scratch0 f5).symm) $$ H5
  ihave H6 := (Entails.of_eq (hold_whole (F := F) d i cc0_scratch1 f6).symm) $$ H6
  ihave H7 := (Entails.of_eq (hold_whole (F := F) d i cc0_scratch2 f7).symm) $$ H7
  ihave H8 := (Entails.of_eq (hold_whole (F := F) d i cc0_scratch3 f8).symm) $$ H8
  ihave H9 := (Entails.of_eq (hold_whole (F := F) d i cc0_scratch4 f9).symm) $$ H9
  iapply (wp_wand frame (wpE (defs₀ (F := F)) 𝒱₀ (thr d i) none) Set.univ) $$ [Hmw HL HL' HB HB' Ho H5 H6 H7 H8 H9 Hs10 Hs11 Hs12 Hs13 Hsr HO]
  · iapply (tile_wp d i Xm (Memref.isWhole_whole _) Bm (Memref.isWhole_whole _) Om (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0 (X d) (B d) (qb (i 0) (i 1) 0) (qb (i 0) (i 1) 1) O W hok f5 f6 f7 f8 f9 (fo d)) $$ [Hmw HL HL' HB HB' Ho H5 H6 H7 H8 H9 Hs10 Hs11 Hs12 Hs13 Hsr HO]
    isplitl [Hmw]; · iexact Hmw
    isplitl [HL HL' HB HB']
    · isplitl [HL]; · iexact HL
      isplitl [HB]; · iexact HB
      isplitl [HL'] <;> iassumption
    isplitl [Ho]; · iexact Ho
    isplitl [H5 H6 H7 H8 H9]
    · isplitl [H5]; · iexact H5
      isplitl [H6]; · iexact H6
      isplitl [H7]; · iexact H7
      isplitl [H8] <;> iassumption
    isplitl [Hs10 Hs11 Hs12 Hs13 Hsr]
    · isplitl [Hs10]; · iexact Hs10
      isplitl [Hs11]; · iexact Hs11
      isplitl [Hs12]; · iexact Hs12
      isplitl [Hs13] <;> iassumption
    unfold Owing
    iexists W; isplitr
    · ipureintro; exact fun p hp => Or.inl hp
    · iexact HO
  iintro %a ⟨⟨HL, HB, HL', HB'⟩, Ho, ⟨⟨%g5, H5⟩, ⟨%g6, H6⟩, ⟨%g7, H7⟩, ⟨%g8, H8⟩, ⟨%g9, H9⟩⟩, ⟨Hs10, Hs11, Hs12, Hs13, Hsr⟩, HO⟩
  ihave H5 := (Entails.of_eq (hold_whole (F := F) d i cc0_scratch0 g5)) $$ H5
  ihave H6 := (Entails.of_eq (hold_whole (F := F) d i cc0_scratch1 g6)) $$ H6
  ihave H7 := (Entails.of_eq (hold_whole (F := F) d i cc0_scratch2 g7)) $$ H7
  ihave H8 := (Entails.of_eq (hold_whole (F := F) d i cc0_scratch3 g8)) $$ H8
  ihave H9 := (Entails.of_eq (hold_whole (F := F) d i cc0_scratch4 g9)) $$ H9
  ihave Ho := (Entails.of_eq (row_done (F := F) d i X B fo)) $$ Ho
  isplitl [HL HL' HB HB' Ho]
  · isplitl [HL HL' HB HB']
    · isplitl [HL HL']
      · isplitl [HL] <;> iassumption
      isplitl [HB] <;> iassumption
    iexact Ho
  isplitl [H5 H6 H7 H8 H9 Hbufs]
  · isplitl [H5]; · iexists g5; iexact H5
    isplitl [H6]; · iexists g6; iexact H6
    isplitl [H7]; · iexists g7; iexact H7
    isplitl [H8]; · iexists g8; iexact H8
    isplitl [H9]; · iexists g9; iexact H9
    iexact Hbufs
  isplitl [Hs10 Hs11 Hs12 Hs13 Hsr Hsems]
  · isplitl [Hs10]; · iexact Hs10
    isplitl [Hs11]; · iexact Hs11
    isplitl [Hs12]; · iexact Hs12
    isplitl [Hs13]; · iexact Hs13
    isplitl [Hsr] <;> iassumption
  unfold Owing
  iexact HO

end Body

theorem defs₀_vector (c : Fin τ.nSC) (s : Fin τ.nSub) :
    defs₀ (F := F) (.scVector c s) 0 ()
      = SparseCore.onTile hcore0 hsub0 (fun c s => cc0_hist_kernel (coordsV c s) Xm (Memref.isWhole_whole _) Bm (Memref.isWhole_whole _) Om (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0) ⟨⟩ c s := rfl

/-- The launch's bound on what a task waits for also allows the call's own waits. -/
theorem waits_weaken {thr : Thread nD τ} {A A' C : sProp 𝕄} {O : CellTallies nD τ sig (HIx 1)} {W : Waits sig (HIx 1)} {q : Fin 1} :
    iprop(A ∗ A' ∗ C ∗ ∃ W', ⌜∀ p ∈ W', p ∈ W ∨ p.2 = none⌝ ∗ owes thr O W')
      ⊢ iprop(A ∗ A' ∗ C ∗ ∃ W', ⌜∀ p ∈ W', p ∈ W ∨ p.2 = none ∨ p.2 = some q⌝ ∗ owes thr O W') := by
  iintro ⟨HA, HA', HC, %W', %hW', HO⟩
  isplitl [HA]; · iexact HA
  isplitl [HA']; · iexact HA'
  isplitl [HC]; · iexact HC
  iexists W'; isplitr
  · ipureintro; exact fun p hp => (hW' p hp).imp_right Or.inl
  · iexact HO

section Obl

variable (X : Dev nD → Vec F S4x19x262144 .f32) (B : Dev nD → Vec F S4x262144 .i32) (fo : (d : Dev nD) → Buf (Elt F) (oLoc d))

set_option maxRecDepth 1024 in
theorem tileObl (hF : (K (F := F)).Facts) (hok : ∀ d i n g, Ok (ckOf (X d) i n) (lbOf (B d) i n) g) : (K (F := F)).TileObl D 𝒱 (P X B fo) v₀ 0 := by
  intro d c i O W hO _ _
  simp only [show (P (F := F) X B fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) X B fo hF (hok d _) O W hO).trans (wp_mono frame _ _ fun _ => waits_weaken)

end Obl

end Cert.Proof.Tile
-- ==== Proof.Fin.lean ====
/-
  The TensorCore kernel that turns the tiles' histograms into the loss: one grid point, the histograms read whole, one
  number written.
-/
module

public import proofs.«01_k».proof.Proof.Task
public import proofs.«01_k».proof.Proof.Gen.KernelIdeal.Launch
public import proofs.«01_k».proof.Proof.Gen.KernelIdeal.Points
public import Idealize.ShloMosaic.Lib.Pipeline.Regions
public import Idealize.ShloMosaic.Lib.Pipeline.Value

@[expose] public section

noncomputable section

namespace Cert.Proof.Fin

open Cert.KernelIdeal Cert.KernelIdeal.Gen Cert.Proof.Tile
open Idealize.ShloMosaic Idealize.ShloMosaic.TcCoe Idealize.ShloMosaic.ValueIdx
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The one number the kernel writes, from the histograms it reads. -/
def finV (X : Vec F S1216x256 .f32) : Vec F S1x1 .f32 :=
  k1_pay1 (k1_pay6 X) (k1_pay7 X) (iota .tc S4x76 32 [0] iota_S4x76_d0_w32) (iota .tc S4x76 32 [1] iota_S4x76_d1_w32) 19#32 k1_pay8 k1_pay9

theorem off2 : (![0, 0] : Fin 2 → Nat) = fun _ => 0 := by funext a; fin_cases a <;> rfl

theorem store_full {Λ : Labels} {defs : Defs nD τ sig (Elt F) Λ} (𝒱 : Variants) (c : Thread nD τ) (bd : Option 𝒱.V) {α : Type} {Q : α → sProp 𝕄}
    {cs : CoreSpace} {s : Shape} {e : EltTy} {m : Memref sig c.2.kind cs s e} (hm : m.IsWhole) {Y w : s.Idx → Elt F e}
    {hx : (m.access (.whole s)).Stores Finset.univ} {hmk : (Finset.univ : Finset (Rect.whole s).shape.Idx) = Finset.univ ∨ ∀ a, (Rect.whole s).stride a = 1}
    {k : PUnit → Prog (TpuEff nD τ sig (Elt F) Λ c.2) α} :
    (hold c hm Y) ⊢ iprop((hold c hm w -∗ wp frame (wpE defs 𝒱 c bd) Set.univ (k ⟨⟩) Q)
      -∗ wp frame (wpE defs 𝒱 c bd) Set.univ (.op (.store m (.whole s) w Finset.univ hx hmk) k) Q) := by
  unfold hold
  have := wp_store (defs := defs) 𝒱 c bd (Γ := PendingWaitsCtx.empty) Set.univ (Q := Q) (m := m) (r := .whole s) (w := w) (Mk := Finset.univ) (hx := hx) (hm := hmk) (k := k)
    (S := Finset.univ) (f := hm.unread Y) (Finset.subset_univ _)
  rw [write_whole_unread] at this
  exact this

theorem store_unit {Λ : Labels} {defs : Defs nD τ sig (Elt F) Λ} (𝒱 : Variants) (c : Thread nD τ) (bd : Option 𝒱.V) {α : Type} {Q : α → sProp 𝕄}
    {cs : CoreSpace} {s : Shape} {e : EltTy} {m : Memref sig c.2.kind cs s e} (hm : m.IsWhole) {off : Fin s.rank → Nat} (h : off = fun _ => 0)
    {inb : ∀ a, off a + s.size a ≤ s.size a} {Y w : s.Idx → Elt F e}
    {hx : (m.access (Rect.unit off s.size inb)).Stores Finset.univ}
    {hmk : (Finset.univ : Finset (Rect.unit off s.size inb).shape.Idx) = Finset.univ ∨ ∀ a, (Rect.unit off s.size inb).stride a = 1}
    {k : PUnit → Prog (TpuEff nD τ sig (Elt F) Λ c.2) α} :
    (hold c hm Y) ⊢ iprop((hold c hm w -∗ wp frame (wpE defs 𝒱 c bd) Set.univ (k ⟨⟩) Q)
      -∗ wp frame (wpE defs 𝒱 c bd) Set.univ (.op (.store m (Rect.unit off s.size inb) w Finset.univ hx hmk) k) Q) := by
  subst h
  exact store_full 𝒱 c bd hm

theorem fin_wp (c : Dev nD) (arg0 : Memref sig .tc .vmem S1216x256 .f32) (harg0 : arg0.IsWhole) (arg1 : Memref sig .tc .vmem S1x1 .f32) (harg1 : arg1.IsWhole)
    (X : Vec F S1216x256 .f32) (Y : Vec F S1x1 .f32) {Q : PUnit → sProp 𝕄} :
    iprop(hold (SparseCore.T c) harg0 X ∗ hold (SparseCore.T c) harg1 Y
        ∗ ((hold (SparseCore.T c) harg0 X ∗ hold (SparseCore.T c) harg1 (finV X)) -∗ Q ⟨⟩))
      ⊢ (wp frame (wpE (defs₀ (F := F)) 𝒱₀ (SparseCore.T c) none) Set.univ (cc1_fin_kernel (F := F) arg0 harg0 arg1 harg1) Q : sProp 𝕄) := by
  rw [cc1_fin_kernel_eq_skeleton]
  unfold cc1_fin_kernel_skel
  rw [k1_part1_eq_skeleton]
  unfold k1_part1_skel
  simp only [Prog.lift, Prog.bind_op, Prog.bind_ret, Prog.pure_eq_ret, Prog.bind_assoc]
  iintro ⟨H0, H1, HQ⟩
  iapply (hold_load 𝒱₀ _ none harg0) $$ H0; iintro H0
  rw [View.ld_unit_zero (S := S1216x256) off2]
  iapply (hold_load 𝒱₀ _ none harg1) $$ H1; iintro H1
  iapply (store_unit 𝒱₀ _ none harg1 off2) $$ H1; iintro H1
  rw [wp_ret]
  imodintro
  iapply HQ
  isplitl [H0]; · iexact H0
  iexact H1

end Cert.Proof.Fin

end
-- ==== Proof.Region.lean ====
/-
  The TensorCore kernel's call as the program makes it: the histograms' buffer is read, the result's buffer ends at the
  number the kernel computes.
-/
module

public import proofs.«01_k».proof.Proof.Fin
public import Idealize.ShloMosaic.Lib.Pipeline.ValueKit.Geometry

@[expose] public section

noncomputable section

namespace Cert.Proof.Fin

open Cert.KernelIdeal Cert.KernelIdeal.Gen Cert.Proof.Tile
open Idealize.ShloMosaic Idealize.ShloMosaic.TcCoe Idealize.ShloMosaic.ValueIdx
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (H : Dev nD → Vec F S1216x256 .f32) (f4 : Dev nD → Vec F S1x1 .f32)

/-- The waits the core may have recorded around the call: at or below the SparseCore call's own level. -/
abbrev low (c : Dev nD) : Set (SemLoc sig × HIx 1) := {p | (K (F := F)).lev (SparseCore.T c, p.1) p.2 ≤ 8}

def dats (_ : Fin 1) (c : Dev nD) : Dat τ (Elt F) (HIx 1) ℕ UU ℕ cfg1 c where
  A w := match w with | ⟨0, _⟩ => H c | ⟨1, _⟩ => f4 c
  after w _ := match w with | ⟨0, _⟩ => H c | ⟨1, _⟩ => finV (H c)
  Φ _ := iprop(emp)
  q _ := fullShare
  owed _ := 0
  recorded _ := low (F := F) c

theorem blk0_read (f : Vec F S1216x256 .f32) : ((cfg1.win 0).blk t1_0).view.read (Elt F) f = f := by
  funext y
  show f _ = f _
  congr 1
  funext a
  apply Fin.ext
  exact Window.rect_emb_val_of_index_zero _ _ _ ((by decide +kernel : ∀ a, (cfg1.win 0).index t1_0 a = 0) a) _

theorem before_in (c : Dev nD) (d : (cfg1.win 0).block.Idx → Elt F (cfg1.win 0).elt) : (dats H f4 0 c).before 0 t1_0 d = H c := by
  unfold Dat.before
  rw [if_pos (by decide)]
  exact blk0_read (H c)

theorem final_out (c : Dev nD) : (dats H f4 0 c).arrAt 1 cfg1.N = finV (H c) :=
  (dats H f4 0 c).arrAt_eq_of_after_last 1 t1_0 (by decide +kernel) _ fun j => rfl

theorem final_in (c : Dev nD) : (dats H f4 0 c).arrAt 0 cfg1.N = H c := (dats H f4 0 c).arrAt_in 0 rfl cfg1.N

theorem unread_eq {c : Thread nD τ} (b : Ref sig c.2.kind) (X : b.ty.shape.Idx → Elt F b.ty.elt) :
    (Memref.isWhole_whole b).unread X = X :=
  unread_whole b X

theorem hold_eq {c : Thread nD τ} (b : Ref sig c.2.kind) (X : b.ty.shape.Idx → Elt F b.ty.elt) :
    (hold c (Memref.isWhole_whole b) X : sProp 𝕄) = (c.loc b ↦{fullShare} X) := by
  unfold hold
  rw [unread_whole]

theorem body_obligation (c : Dev nD) : BodyObligation (dats H f4 0 c) (defs₀ (F := F)) 𝒱₀ none Set.univ := fun t => by
  obtain rfl := fin_N1 t
  rw [bigSep_W1, bigSep_W1]
  simp only [owns_whole_eq]
  rw [show (dats H f4 0 c).Φ t1_0.castSucc = iprop(emp) from rfl, show (dats H f4 0 c).Φ t1_0.succ = iprop(emp) from rfl]
  unfold Dat.owesAt Pipeline.owesWithin
  rw [show (dats H f4 0 c).owed t1_0.castSucc = 0 from rfl, show (dats H f4 0 c).owed t1_0.succ = 0 from rfl,
    show (dats H f4 0 c).bound none t1_0.succ = (dats H f4 0 c).bound none t1_0.castSucc from rfl]
  iintro ⟨-, HO, ⟨%d0, %f0, %hf0, H0⟩, ⟨%d1, %f1, %hf1, H1⟩⟩
  rw [before_in] at hf0
  subst hf0
  iapply (fin_wp c (Memref.whole cc1_stg0_0) (hstage1_0 0) (Memref.whole cc1_stg1_0) (hstage1_1 0) (H c) f1)
  have e0 : ∀ X : Vec F S1216x256 .f32, (hold (SparseCore.T c) (m := Memref.whole cc1_stg0_0) (hstage1_0 0) X : sProp 𝕄) = (c.tc.loc cc1_stg0_0 ↦{fullShare} X) :=
    fun X => hold_eq (c := SparseCore.T c) cc1_stg0_0 X
  have e1 : ∀ X : Vec F S1x1 .f32, (hold (SparseCore.T c) (m := Memref.whole cc1_stg1_0) (hstage1_1 0) X : sProp 𝕄) = (c.tc.loc cc1_stg1_0 ↦{fullShare} X) :=
    fun X => hold_eq (c := SparseCore.T c) cc1_stg1_0 X
  rw [e0, e1, e1]
  isplitl [H0]; · iexact H0
  isplitl [H1]; · iexact H1
  iintro ⟨H0, H1⟩
  isplitr; · iempintro
  isplitl [HO]; · iexact HO
  isplitl [H0]
  · iexists _; isplitr; swap; (· iexact H0); ipureintro; dsimp only [dats]
  · iexists _; isplitr; swap; (· iexact H1); ipureintro; dsimp only [dats]

abbrev adm : (p : Fin 1) → (pcfgs (F := F) p).Adm := fun p => (cfgs p).toPCfg_adm

theorem arrays_eq2 (c : Dev nD) (G : (w : Fin cfg1.W) → Buf (Elt F) ((cfg1.win w).arr.view.loc (c.tc : Thread nD τ))) :
    ((dats H f4 0 c).arrays G : sProp 𝕄) = iprop(((SparseCore.T c).loc main_v3 ↦{fullShare} G 0) ∗ ((SparseCore.T c).loc main_v4 ↦{fullShare} G 1)) := by
  unfold Dat.arrays
  rw [bigSep_W1]
  rw [(arr_whole1 0).set_eq_univ, (arr_whole1 1).set_eq_univ]
  rfl

abbrev noSem : Fin 0 → SemLoc sig := fun k => k.elim0

set_option backward.isDefEq.respectTransparency.types false in
/-- The call: in from the two arrays and what the core owes, out to the two arrays with the result written. -/
def reg : Pipeline.RegionSeg (pcfgs (F := F)) adm (dats H f4) none defs₀ 𝒱₀ (K (F := F)).L (K (F := F)).lev 0 where
  win := launch1.win.to₀
  block_pos := launch1.block_pos
  stage_whole := launch1.stage_whole
  K := Fin 0
  osem := noSem
  ho := (by decide : Pipeline.OwnSemFacts spec1 noSem)
  hbody c := (body_obligation H f4 c).loose
  hwaits := Pipeline.hwaits_of_owed_zero _ _ _ _ (K (F := F)).L (K (F := F)).lev 0 fun _ _ => rfl
  pre c := iprop((∃ W, ⌜(K (F := F)).WBelow (SparseCore.T c) W 8⌝ ∗ owes (SparseCore.T c) 0 W)
    ∗ ((SparseCore.T c).loc main_v3 ↦{fullShare} H c) ∗ ((SparseCore.T c).loc main_v4 ↦{fullShare} f4 c))
  post c := iprop((∃ W, ⌜(K (F := F)).WBelow (SparseCore.T c) W 8⌝ ∗ owes (SparseCore.T c) 0 W)
    ∗ ((SparseCore.T c).loc main_v3 ↦{fullShare} H c) ∗ ((SparseCore.T c).loc main_v4 ↦{fullShare} finV (H c)))
  X _ := iprop(emp)
  Y _ := iprop(emp)
  Z _ := iprop(emp)
  hentry c := by
    rw [arrays_eq2]
    iintro ⟨⟨HO, H3, H4⟩, -, -⟩
    imodintro
    isplitl [H3 H4]
    · isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iempintro
  hin c := by
    rw [show (dats H f4 0 c).Φ 0 = iprop(emp) from rfl]
    iintro -
    iempintro
  hout c := by
    rw [show (dats H f4 0 c).Φ (Fin.last cfg1.N) = iprop(emp) from rfl, scopedRest1_eq,
      Pipeline.ownSems0_eq_of_list c noSem [] (by decide) (by decide)]
    iintro -
    isplitr; · iempintro
    isplitr; · iempintro
    iempintro
  hexit c := by
    rw [arrays_eq2, final_in, final_out]
    iintro ⟨⟨H3, H4⟩, HO, -, -⟩
    imodintro
    isplitl [HO]
    · unfold Pipeline.Dat.owesAt Pipeline.owesWithin
      icases HO with ⟨%W, %hW, HO⟩; iexists W; isplitr
      · ipureintro
        intro p hp
        rcases hW hp with h | ⟨w, s, h⟩
        · exact h
        · rw [h]; exact Nat.zero_le _
      iexact HO
    isplitl [H3]; · iexact H3
    iexact H4

end Cert.Proof.Fin

end
-- ==== Proof.Main.lean ====
/-
  The whole program's run, for any float values: the operands reshaped, the SparseCore call, its result reshaped, the
  TensorCore call, its result reshaped.
-/
module

public import proofs.«01_k».proof.Proof.Region
public import Idealize.ShloMosaic.Lib.Pipeline.Sound
public import Idealize.ShloMosaic.Lib.StableHlo.Run

@[expose] public section

noncomputable section

namespace Cert.Proof.Main

open Cert.KernelIdeal Cert.KernelIdeal.Gen Cert.Proof.Tile Cert.Proof.Fin
open Idealize.ShloMosaic Idealize.ShloMosaic.TcCoe Idealize.ShloMosaic.ValueIdx
open Idealize.ShloMosaic.SparseCore.Cfg (HIx)
open Idealize.ShloMosaic.StableHlo (held held_split held_sdiff_result wp_hlo_within)
open Idealize.ShloMosaic.Rounds
open Idealize.ShloMosaic.Pipeline (cellsGhost toksInit)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A reshape on the host -/

theorem reshape_wp (d : Dev nD) (V₀ : Valuation τ sig (Elt F)) (x y : Ref sig .tc) (hne : Proc.devRef (τ := τ) .tc x ≠ Proc.devRef .tc y)
    (he : x.ty.elt = y.ty.elt) (hn : x.ty.shape.ShapeCasts y.ty.shape)
    (hx : x.space ≠ .host ∧ (x : DevRef τ sig).isScoped = false) (hy : y.space ≠ .host ∧ (y : DevRef τ sig).isScoped = false)
    (f : x.ty.shape.Idx → Elt F x.ty.elt) (g : y.ty.shape.Idx → Elt F y.ty.elt) (w : y.ty.shape.Idx → Elt F y.ty.elt)
    (hw : (fun i => he ▸ shapeCast y.ty.shape f hn i) = w) {Q : PUnit → sProp 𝕄} :
    iprop(boundary (SparseCore.T d) ∗ ((SparseCore.T d).loc x ↦{fullShare} f) ∗ ((SparseCore.T d).loc y ↦{fullShare} g)
        ∗ ((boundary (SparseCore.T d) ∗ ((SparseCore.T d).loc x ↦{fullShare} f) ∗ ((SparseCore.T d).loc y ↦{fullShare} w)) -∗ Q ⟨⟩))
      ⊢ (wp frame (wpE ((K (F := F)).defs (D (F := F))) 𝒱 (SparseCore.T d) none) Set.univ
          (hlo rfl (StableHlo.reshape x y he hn hx hy) (fun _ => .ret ⟨⟩)) Q : sProp 𝕄) := by
  let V : Valuation τ sig (Elt F) := Function.update (Function.update V₀ (Proc.devRef .tc x) f) (Proc.devRef .tc y) g
  have hVx : V (Proc.devRef .tc x) = f := by
    show Function.update (Function.update V₀ (Proc.devRef .tc x) f) (Proc.devRef .tc y) g (Proc.devRef .tc x) = f
    rw [Function.update_of_ne hne, Function.update_self]
  have hVy : V (Proc.devRef .tc y) = g := Function.update_self _ _ _
  have hh : ∀ W : Valuation τ sig (Elt F), (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    intro W
    unfold held
    rw [SparseCore.bigSep_insert' (by simpa using hne), bigSep_singleton]
  have hr : (StableHlo.reshape x y he hn hx hy : HloOp τ sig (Elt F)).result V (Proc.devRef .tc y) = w := by
    rw [StableHlo.reshape_result, hVx]; exact hw
  have hk : (StableHlo.reshape x y he hn hx hy : HloOp τ sig (Elt F)).result V (Proc.devRef .tc x) = f := by
    rw [(StableHlo.reshape x y he hn hx hy : HloOp τ sig (Elt F)).result_of_not_mem V
      (show Proc.devRef .tc x ∉ ({Proc.devRef .tc y} : Finset (DevRef τ sig)) by simpa using hne), hVx]
  iintro ⟨Hb, Hx, Hy, HQ⟩
  iapply (wp_hlo_within 𝒱 (SparseCore.T d) none Set.univ (op := StableHlo.reshape x y he hn hx hy)
    (S := {Proc.devRef .tc x, Proc.devRef .tc y}) (Finset.Subset.refl _) (V := V)) $$ [Hb Hx Hy]
  · isplitl [Hb]; · iexact Hb
    rw [hh, hVx, hVy]
    isplitl [Hx]; · iexact Hx
    iexact Hy
  rw [hh, hr, hk]
  iintro ⟨Hb, Hx, Hy⟩
  rw [wp_ret]
  imodintro
  iapply HQ
  isplitl [Hb]; · iexact Hb
  isplitl [Hx]; · iexact Hx
  iexact Hy

/-! ## The launch's element -/

def u₀ : UU :=
  (initOf (K (F := F)).hsCells (K (F := F)).hsToks, (initOf (Pipeline.cells cfgs cellOf_inj) (Pipeline.launchToks cfgs cellOf_inj), 1))

theorem ownU_split (a : UH) (b : UP) (e : Counters) : (ownU (a, (b, e)) : sProp 𝕄) ⊢ iprop(BI.own (EH a) ∗ BI.own (EP b)) := by
  have h1 : (ownU (a, (b, e)) : sProp 𝕄) ⊢ iprop(BI.own (EH a) ∗ ownU ((1 : UH), (b, e))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, e))))
  have h2 : (ownU ((1 : UH), (b, e)) : sProp 𝕄) ⊢ iprop(BI.own (EP b) ∗ ownU ((1 : UH), ((1 : UP), e))) :=
    BI.own_op_elim ((uEmb (nD := nD) (sig := sig) (Ix := HIx 1) (Val := Elt F) (Name := ℕ) (U := UU) (Lvl := ℕ)).toEmb.op_of_mem
      (Prod.mk_mem_op (URA.mem_op_one 1) (Prod.mk_mem_op (URA.mem_op_one b) (URA.mem_one_op e))))
  iintro H
  ihave H' := h1 $$ H
  icases H' with ⟨HA, HB⟩
  isplitl [HA]; · iexact HA
  ihave H' := h2 $$ HB
  icases H' with ⟨HB, -⟩
  iexact HB

section Run

variable (m : (ℓ : Loc nD τ sig) → Buf (Elt F) ℓ) (ρ : Dev nD → PrngReg)

abbrev aLoc (d : Dev nD) : Loc nD τ sig := (SparseCore.T d).loc main_arg0
abbrev tLoc (d : Dev nD) : Loc nD τ sig := (SparseCore.T d).loc main_arg1
abbrev rLoc (d : Dev nD) : Loc nD τ sig := (SparseCore.T d).loc main_v5

/-- The logits and the labels as the SparseCore call takes them. -/
def XV (d : Dev nD) : Vec F S4x19x262144 .f32 := shapeCast S4x19x262144 (m (aLoc d) : Vec F S4x19x512x512 .f32) shapeCasts_S4x19x512x512_S4x19x262144
def BV (d : Dev nD) : Vec F S4x262144 .i32 := shapeCast S4x262144 (m (tLoc d) : Vec F S4x512x512 .i32) shapeCasts_S4x512x512_S4x262144
/-- The tiles' histograms as the TensorCore call takes them. -/
def HV (d : Dev nD) : Vec F S1216x256 .f32 := shapeCast S1216x256 (outB (XV m d) (BV m d)) shapeCasts_S32x9728_S1216x256
/-- The program's result. -/
def RV (d : Dev nD) : Vec F S_ .f32 := shapeCast S_ (finV (HV m d)) shapeCasts_S1x1_S_

abbrev fo (d : Dev nD) : Buf (Elt F) (oLoc d) := m (oLoc d)
abbrev f4 (d : Dev nD) : Vec F S1x1 .f32 := m ((SparseCore.T d).loc main_v4)

abbrev PP : (K (F := F)).Pay (nD := nD) (Val := Elt F) (Name := ℕ) (U := UU) := P (XV m) (BV m) (fo m)

abbrev G (d : Dev nD) : sProp 𝕄 := iprop(cellsGhost cfgs EP 0 d ∗ toksInit cfgs EP 0 d)

theorem hu₀ : (ownU (u₀ (F := F)) : sProp 𝕄)
    ⊢ |={Set.univ}=> iprop(BI.own (EH (initOf (K (F := F)).hsCells (K (F := F)).hsToks)) ∗ bigSep Finset.univ G
        ∗ bigSep Finset.univ fun thr : Thread nD τ => bigSep Finset.univ fun q : Fin 1 => (PP m).x q thr) := by
  unfold u₀
  iintro Hu
  ihave H := (ownU_split _ _ _) $$ Hu
  icases H with ⟨HH, HP⟩
  imod (Pipeline.fund_ghost cfgs (EP (F := F)) cellOf_inj) $$ HP with ⟨Hc, Ht⟩
  imodintro
  isplitl [HH]; · iexact HH
  isplitl [Hc Ht]
  · rw [bigSep_sep']
    simp only [bigSep_univ_of_subsingleton (0 : Fin 1)]
    isplitl [Hc]; · iexact Hc
    iexact Ht
  · rw [show (bigSep Finset.univ fun thr : Thread nD τ => bigSep Finset.univ fun q : Fin 1 => (PP m).x q thr)
      = (bigSep Finset.univ fun _ : Thread nD τ => bigSep Finset.univ fun _ : Fin 1 => (iprop(emp) : sProp 𝕄)) from rfl,
      show (bigSep Finset.univ fun _ : Thread nD τ => bigSep Finset.univ fun _ : Fin 1 => (iprop(emp) : sProp 𝕄)) = iprop(emp) from
        (bigSep_congr fun _ _ => bigSep_emp_const _).trans (bigSep_emp_const _)]
    iempintro

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1)
      ∗ (xLoc d ↦{fullShare} W main_v0) ∗ (bLoc d ↦{fullShare} W main_v1) ∗ (oLoc d ↦{fullShare} W main_v2)
      ∗ ((SparseCore.T d).loc main_v3 ↦{fullShare} W main_v3) ∗ ((SparseCore.T d).loc main_v4 ↦{fullShare} W main_v4) ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem st0_eq (d : Dev nD) : (bigSep Finset.univ fun c : Fin ((K (F := F)).nCore 0) => (PP m).st 0 d c)
    = iprop((xLoc d ↦{fullShare} XV m d) ∗ (bLoc d ↦{fullShare} BV m d) ∗ oLoc d ↦{fullShare} fo m d) :=
  whole_split (XV m) (BV m) (fo m) d
theorem dn0_eq (d : Dev nD) : (bigSep Finset.univ fun c : Fin ((K (F := F)).nCore 0) => (PP m).dn 0 d c)
    = iprop((xLoc d ↦{fullShare} XV m d) ∗ (bLoc d ↦{fullShare} BV m d) ∗ oLoc d ↦{fullShare} outB (XV m d) (BV m d)) :=
  whole_split (XV m) (BV m) (fun d => outB (XV m d) (BV m d)) d

abbrev FIN (d : Dev nD) : sProp 𝕄 :=
  iprop((aLoc d ↦{fullShare} m (aLoc d)) ∗ (tLoc d ↦{fullShare} m (tLoc d)) ∗ rLoc d ↦{fullShare} RV m d)

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Hx, Hl, Ho, H3, H4, Hr⟩, Hts, -⟩, ⟨Hcg, Htk⟩⟩
  iapply (reshape_wp d (fun b => m (d, b)) main_arg0 main_v0 (by decide) rfl _ _ _ (m (aLoc d)) _ (XV m d) rfl)
  isplitl [Hb]; · iexact Hb
  isplitl [Ha]; · iexact Ha
  isplitl [Hx]; · iexact Hx
  iintro ⟨Hb, Ha, Hx⟩
  iapply (reshape_wp d (fun b => m (d, b)) main_arg1 main_v1 (by decide) rfl _ _ _ (m (tLoc d)) _ (BV m d) rfl)
  isplitl [Hb]; · iexact Hb
  isplitl [Ht]; · iexact Ht
  isplitl [Hl]; · iexact Hl
  iintro ⟨Hb, Ht, Hl⟩
  iapply ((K (F := F)).wp_run (D (F := F)) 𝒱 (EH := EH) (P := PP m) κ d 0)
  isplitr; · iexact Hctx
  isplitl [Hst]; · iexact Hst
  isplitl [Hx Hl Ho]
  · rw [st0_eq]
    isplitl [Hx]; · iexact Hx
    isplitl [Hl]; · iexact Hl
    iexact Ho
  iintro ⟨Hst, Hdn⟩
  ihave Hdn' := (Entails.of_eq (dn0_eq m d)) $$ Hdn
  icases Hdn' with ⟨-, -, Ho⟩
  iapply (reshape_wp d (fun b => m (d, b)) main_v2 main_v3 (by decide) rfl _ _ _ (outB (XV m d) (BV m d)) _ (HV m d) rfl)
  isplitl [Hb]; · iexact Hb
  isplitl [Ho]; · iexact Ho
  isplitl [H3]; · iexact H3
  iintro ⟨Hb, -, H3⟩
  unfold SparseCore.Cfg.tcSt
  icases Hst with ⟨HO, Hst⟩
  rw [show (K (F := F)).Otc (N := 1) d ((0 : Fin 1).val + 1) = 0 from (K (F := F)).Otc_end d (by decide)]
  ihave Hlev := (SparseCore.Cfg.ctx_levAts κ) $$ Hctx
  iapply ((K (F := F)).wp_liftProg (D (F := F)) 𝒱 (SparseCore.T d) Set.univ none (.op (.customCall (Pipeline.entry 0) ()) .ret))
  iapply (Pipeline.RegionSeg.wp (pcfgs (F := F)) Fin.adm (Fin.dats (HV m) (f4 m)) none cellOf_inj EP defs₀ 𝒱₀ (K (F := F)).L (K (F := F)).lev
    (Fin.reg (HV m) (f4 m)) d none (fun u hu => nomatch hu) .ret)
  rw [show (reg (HV m) (f4 m)).post d = iprop((∃ W, ⌜(K (F := F)).WBelow (SparseCore.T d) W 8⌝ ∗ owes (SparseCore.T d) 0 W)
      ∗ ((SparseCore.T d).loc main_v3 ↦{fullShare} HV m d) ∗ ((SparseCore.T d).loc main_v4 ↦{fullShare} finV (HV m d))) from rfl,
    show (reg (HV m) (f4 m)).pre d = iprop((∃ W, ⌜(K (F := F)).WBelow (SparseCore.T d) W 8⌝ ∗ owes (SparseCore.T d) 0 W)
      ∗ ((SparseCore.T d).loc main_v3 ↦{fullShare} HV m d) ∗ ((SparseCore.T d).loc main_v4 ↦{fullShare} f4 m d)) from rfl]
  isplitl [Hst Ha Ht Hr Hts]
  · iintro ⟨Hb, HO, -, H4⟩
    rw [wp_ret]
    imodintro
    iapply (reshape_wp d (fun b => m (d, b)) main_v4 main_v5 (by decide) rfl _ _ _ (finV (HV m d)) _ (RV m d) rfl)
    isplitl [Hb]; · iexact Hb
    isplitl [H4]; · iexact H4
    isplitl [Hr]; · iexact Hr
    iintro ⟨Hb, -, Hr⟩
    imodintro
    isplitl [HO Hst]
    · rw [(K (F := F)).Otc_end d (show 1 ≤ 1 from le_rfl)]
      isplitl [HO]; · iexact HO
      iexact Hst
    isplitl [Ha Ht Hr]
    · isplitl [Ha]; · iexact Ha
      isplitl [Ht]; · iexact Ht
      iexact Hr
    isplitl [Hb] <;> iassumption
  isplitl [Hb]; · iexact Hb
  isplitl [HO H3 H4]
  · isplitl [HO]; · iexact HO
    isplitl [H3]; · iexact H3
    iexact H4
  isplitl [Hlev]; · iexact Hlev
  isplitl [Hcg]; · iexact Hcg
  iexact Htk

def fq (d : Dev nD) (s' : Phys nD τ sig (Elt F)) : Prop :=
  s'.mem.mem (aLoc d) = m (aLoc d) ∧ s'.mem.mem (tLoc d) = m (tLoc d) ∧ s'.mem.mem (rLoc d) = RV m d

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := RV m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What every final state has: the operands as launched, the result, every semaphore at zero. -/
def QC : PUnit × MemSt nD τ sig (Elt F) → Prop := fun r =>
  (∀ d : Dev nD, r.2.mem (aLoc d) = m (aLoc d) ∧ r.2.mem (tLoc d) = m (tLoc d) ∧ r.2.mem (rLoc d) = RV m d) ∧ r.2.sem = fun _ => 0

/-- The whole program's run, where every index the tiles form lies in range. -/
theorem run_main [∀ e, Nonempty (Elt F e)] (hok : ∀ d i n g, Ok (ckOf (XV m d) i n) (lbOf (BV m d) i n) g) :
    θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (XV m) (BV m) (fo m) facts hok)
    (fun q _ => match q with | 0 => SparseCore.Cfg.VecSplit.of_plain (vecSplit (XV m) (BV m) (fo m)))
    m ρ main G (FIN m) (u₀ (F := F)) (sep_elim_left.trans (hu₀ m)) (hmain m ρ) (fq m) (hfin m) (QC m) (fun _ h hz => ⟨h, hz⟩)

end Run

end Cert.Proof.Main

end
-- ==== Proof.Bins.lean ====
/-
  The bins of a group over the reals. With `P c` the exponential of class `c`'s logit at a pixel, the scaled probability
  `qv P c = P c · (255 / ∑ P)` lies between 0 and 255 whatever the logits are, so that every word the kernel computes as an
  index is the natural number named here, and is in range as soon as the label is.
-/
module

public import proofs.«01_k».proof.Proof.Group
public import Idealize.ShloMosaic.PureOps.Ideal.Laws
public import Idealize.ShloMosaic.Lib.IdealHost
public import Idealize.ShloMosaic.Lib.Pipeline.Value
public import Idealize.ShloMosaic.Lib.Pipeline.ValueKit.Tiles
public import Idealize.ShloMosaic.Lib.WordCmp

@[expose] public section

noncomputable section

namespace Cert.Proof.Bins

open Cert.KernelIdeal Cert.KernelIdeal.Gen
open Idealize.ShloMosaic
open Idealize.ShloMosaic.ValueIdx
open Cert.Proof.Tile

/-! ## The scaled probability -/

/-- 255 times the share of `P c` in the sum. -/
def qv (P : Fin 19 → EReal) (c : Fin 19) : EReal := P c * Ideal.div ((255 : ℝ) : EReal) (∑ k, P k)

theorem share {a S : EReal} (ha : 0 ≤ a) (haS : a ≤ S) :
    ∃ r : ℝ, a * Ideal.div ((255 : ℝ) : EReal) S = (r : EReal) ∧ 0 ≤ r ∧ r ≤ 255 := by
  have z0 : ∃ r : ℝ, (0 : EReal) = (r : EReal) ∧ 0 ≤ r ∧ r ≤ 255 := ⟨0, by simp, le_rfl, by norm_num⟩
  induction S with
  | bot => exact absurd (ha.trans haS) (by simp)
  | top =>
      have : Ideal.div ((255 : ℝ) : EReal) ⊤ = 0 := by rw [Ideal.div, if_neg (by simp)]; simp
      rw [this, mul_zero]; exact z0
  | coe s =>
      induction a with
      | bot => exact absurd ha (by simp)
      | top => exact absurd haS (by simp)
      | coe x =>
          have hx : 0 ≤ x := by exact_mod_cast ha
          have hxs : x ≤ s := by exact_mod_cast haS
          by_cases hs : s = 0
          · have : x = 0 := by subst hs; exact le_antisymm hxs hx
            subst this; rw [EReal.coe_zero, zero_mul]; exact z0
          · have hp : 0 < s := lt_of_le_of_ne (hx.trans hxs) (Ne.symm hs)
            rw [Ideal.div_coe hs, ← EReal.coe_mul, ← EReal.coe_mul]
            refine ⟨_, rfl, by positivity, ?_⟩
            rw [show x * (255 * (1 / s)) = 255 * (x / s) by ring]
            have := (div_le_one hp).2 hxs
            linarith

theorem qv_real {P : Fin 19 → EReal} (hP : ∀ c, 0 ≤ P c) (c : Fin 19) :
    ∃ r : ℝ, qv P c = (r : EReal) ∧ 0 ≤ r ∧ r ≤ 255 :=
  share (hP c) (Finset.single_le_sum (f := P) (fun k _ => hP k) (Finset.mem_univ c))

/-- It as a real. -/
def qr (P : Fin 19 → EReal) (c : Fin 19) : ℝ := (qv P c).toReal

theorem qr_coe {P : Fin 19 → EReal} (hP : ∀ c, 0 ≤ P c) (c : Fin 19) : qv P c = (qr P c : EReal) := by
  obtain ⟨r, e, -, -⟩ := qv_real hP c; rw [qr, e, EReal.toReal_coe]

theorem qr_nonneg {P : Fin 19 → EReal} (hP : ∀ c, 0 ≤ P c) (c : Fin 19) : 0 ≤ qr P c := by
  obtain ⟨r, e, h, -⟩ := qv_real hP c; rw [qr, e, EReal.toReal_coe]; exact h

theorem qr_le {P : Fin 19 → EReal} (hP : ∀ c, 0 ≤ P c) (c : Fin 19) : qr P c ≤ 255 := by
  obtain ⟨r, e, -, h⟩ := qv_real hP c; rw [qr, e, EReal.toReal_coe]; exact h

/-- The level of class `c` at a pixel of another class: `255 p` to the nearest. -/
def nb (P : Fin 19 → EReal) (c : Fin 19) : ℕ := ⌊qr P c + 1 / 2⌋₊
/-- The level of the pixel's own class: `255 (1 - p)` to the nearest. -/
def nf (P : Fin 19 → EReal) (c : Fin 19) : ℕ := ⌊511 / 2 - qr P c⌋₊

theorem nb_le {P : Fin 19 → EReal} (hP : ∀ c, 0 ≤ P c) (c : Fin 19) : nb P c ≤ 255 := by
  have := qr_le hP c
  refine Nat.lt_succ_iff.1 ((Nat.floor_lt' (by norm_num)).2 ?_)
  push_cast; linarith

theorem nf_le {P : Fin 19 → EReal} (hP : ∀ c, 0 ≤ P c) (c : Fin 19) : nf P c ≤ 255 := by
  have := qr_nonneg hP c
  refine Nat.lt_succ_iff.1 ((Nat.floor_lt' (by norm_num)).2 ?_)
  push_cast; linarith

/-! ## Words -/

/-- A nonnegative real in the word's range, made an integer, is its floor. -/
theorem toNat_fptosi {r : ℝ} (h0 : 0 ≤ r) (h1 : r < 2 ^ 31) : (Ideal.fptosi 32 (r : EReal)).toNat = ⌊r⌋₊ := by
  have hf : 0 ≤ ⌊r⌋ := Int.floor_nonneg.2 h0
  have hl : ⌊r⌋ < 2 ^ 31 := Int.floor_lt.2 (by push_cast; norm_num at h1; exact h1)
  have e : (⌊r⌋₊ : ℤ) = ⌊r⌋ := Int.natCast_floor_eq_floor h0
  rw [Ideal.fptosi, Ideal.toIntClamped_coe, if_pos h0]
  rw [show max (-((2 ^ (32 - 1) : ℕ) : ℤ)) (min (((2 ^ (32 - 1) : ℕ) : ℤ) - 1) ⌊r⌋) = ((⌊r⌋₊ : ℕ) : ℤ) by
    rw [e]; norm_num; omega]
  rw [BitVec.ofInt_natCast, BitVec.toNat_ofNat]
  exact Nat.mod_eq_of_lt (by omega)

theorem word_half : (FloatOps.ofBits .f32 0x3F000000#32 : Ideal .f32) = ((1 / 2 : ℝ) : EReal) := by
  simp [Ideal.ofBits, Ideal.ieee, -EReal.coe_mul]; norm_num
theorem word_255 : (FloatOps.ofBits .f32 0x437F0000#32 : Ideal .f32) = ((255 : ℝ) : EReal) := by
  simp [Ideal.ofBits, Ideal.ieee, -EReal.coe_mul]; norm_num
theorem word_256 : (FloatOps.ofBits .f32 0x43800000#32 : Ideal .f32) = ((256 : ℝ) : EReal) := by
  simp [Ideal.ofBits, Ideal.ieee, -EReal.coe_mul]; norm_num
theorem word_fg : (FloatOps.ofBits .f32 0x459FFC00#32 : Ideal .f32) = ((5119 + 1 / 2 : ℝ) : EReal) := by
  rw [show (5119 + 1 / 2 : ℝ) = 10239 / 2 by norm_num]
  simp [Ideal.ofBits, Ideal.ieee, -EReal.coe_mul]; norm_num
theorem word_bin (c : Fin 19) : (FloatOps.ofBits .f32 (binWord c) : Ideal .f32) = ((256 * (c.val : ℝ) + 1 / 2 : ℝ) : EReal) := by
  fin_cases c <;> simp [binWord, Ideal.ofBits, Ideal.ieee, -EReal.coe_mul, -EReal.coe_add] <;> norm_num

/-! ## A group's rows, labels and positions at a lane -/

theorem trips_lt (g : Fin k0_t3_loop.trips) : g.val < 128 := lt_of_lt_of_le g.isLt k0_t3_abs.2.1

/-- The pixel of lane `x` of group `g`. -/
def pix (g : Fin k0_t3_loop.trips) (x : S16.Idx) : Fin 2048 :=
  ⟨16 * g.val + (x 0).val, by have := trips_lt g; have h : (x 0).val < 16 := (x 0).isLt; omega⟩

variable {F : FTy → Type}

theorem lblOf_at (lb : Vec F S2048 .i32) (g : Fin k0_t3_loop.trips) (x : S16.Idx) : lblOf (F := F) lb g x = lb (ix1 (pix g x)) := by
  unfold lblOf
  refine View.ld_unit_apply_of lb _ _ _ x _ fun a => ?_
  have e : (ix1 (pix g x) a).val = (![16 * g.val] : Fin 1 → ℕ) a + (x a).val := by fin_cases a; rfl
  exact e.trans (congrArg (fun o : Fin 1 → ℕ => o a + (x a).val) (k0_off8_eq g).symm)

theorem row_at (ck : Vec F S19x2048 .f32) (g : Fin k0_t3_loop.trips) (c : Fin 19) (off : Fin 2 → ℕ)
    (inb : ∀ a, off a + S1x16.size a ≤ S19x2048.size a) (e : off = ![c.val, 16 * g.val]) (y : S1x16.Idx) (x : S16.Idx)
    (hy : (y 1).val = (x 0).val) :
    View.ld ck (Rect.unit (s := S19x2048) off S1x16.size inb) y = ck (ix2 c (pix g x)) := by
  subst e
  refine View.ld_unit_apply_of ck _ _ _ y _ fun a => ?_
  fin_cases a
  · show c.val = c.val + (y 0).val
    have h : (y 0).val < 1 := (y 0).isLt
    omega
  · show 16 * g.val + (x 0).val = 16 * g.val + (y 1).val
    omega

theorem rowOf_at (ck : Vec F S19x2048 .f32) (g : Fin k0_t3_loop.trips) (c : Fin 19) (y : S1x16.Idx) (x : S16.Idx)
    (hy : (y 1).val = (x 0).val) : rowOf ck g c y = ck (ix2 c (pix g x)) := by
  fin_cases c
  · exact row_at ck g 0 _ _ (k0_off9_eq g) y x hy
  · exact row_at ck g 1 _ _ (k0_off10_eq g) y x hy
  · exact row_at ck g 2 _ _ (k0_off11_eq g) y x hy
  · exact row_at ck g 3 _ _ (k0_off12_eq g) y x hy
  · exact row_at ck g 4 _ _ (k0_off13_eq g) y x hy
  · exact row_at ck g 5 _ _ (k0_off14_eq g) y x hy
  · exact row_at ck g 6 _ _ (k0_off15_eq g) y x hy
  · exact row_at ck g 7 _ _ (k0_off16_eq g) y x hy
  · exact row_at ck g 8 _ _ (k0_off17_eq g) y x hy
  · exact row_at ck g 9 _ _ (k0_off18_eq g) y x hy
  · exact row_at ck g 10 _ _ (k0_off19_eq g) y x hy
  · exact row_at ck g 11 _ _ (k0_off20_eq g) y x hy
  · exact row_at ck g 12 _ _ (k0_off21_eq g) y x hy
  · exact row_at ck g 13 _ _ (k0_off22_eq g) y x hy
  · exact row_at ck g 14 _ _ (k0_off23_eq g) y x hy
  · exact row_at ck g 15 _ _ (k0_off24_eq g) y x hy
  · exact row_at ck g 16 _ _ (k0_off25_eq g) y x hy
  · exact row_at ck g 17 _ _ (k0_off26_eq g) y x hy
  · exact row_at ck g 18 _ _ (k0_off27_eq g) y x hy

theorem pos_word : ∀ g : Fin k0_t3_loop.trips,
    Scalar.muli (Scalar.addi 0#32 (Scalar.muli (Scf.iv (0#32 : BitVec 32) 1#32 g) 1#32)) 16#32 = BitVec.ofNat 32 (16 * g.val) := by
  decide +kernel

theorem posOf_at (g : Fin k0_t3_loop.trips) (x : S16.Idx) : (posOf g x).toNat = (pix g x).val := by
  have hg := trips_lt g
  have hx : (x 0).val < 16 := (x 0).isLt
  unfold posOf k0_pay41
  rw [pos_word]
  show (BitVec.ofNat 32 (16 * g.val) + iota .scVector S16 32 [0] iota_S16_d0_w32_scVector x).toNat = _
  rw [WordCmp.iota_at]
  simp only [List.foldl_cons, List.foldl_nil, Nat.zero_mul, Nat.zero_add, BitVec.toNat_add, BitVec.toNat_ofNat, pix]
  omega

/-! ## The values at a lane -/

/-- The exponentials at a pixel of a chunk. -/
def px (ck : Vec Ideal S19x2048 .f32) (p : Fin 2048) (c : Fin 19) : EReal := Ideal.exp (ck (ix2 c p))

theorem exp_nonneg (x : EReal) : 0 ≤ Ideal.exp x := by
  induction x with
  | bot => simp
  | top => simp
  | coe r => rw [Ideal.exp_coe]; exact_mod_cast (Real.exp_pos r).le

theorem px_nonneg (ck : Vec Ideal S19x2048 .f32) (p : Fin 2048) (c : Fin 19) : 0 ≤ px ck p c := exp_nonneg _

theorem ex_at (ck : Vec Ideal S19x2048 .f32) (g : Fin k0_t3_loop.trips) (c : Fin 19) (x : S16.Idx) :
    ex (rowOf ck g c) x = px ck (pix g x) c := by
  show Ideal.exp (shapeCast S16 (rowOf ck g c) shapeCasts_S1x16_S16 x) = _
  refine congrArg Ideal.exp ((shapeCast_dropUnit_apply ![16] (rowOf ck g c) shapeCasts_S1x16_S16 x).trans ?_)
  exact rowOf_at ck g c _ x rfl

theorem inv_at (ck : Vec Ideal S19x2048 .f32) (g : Fin k0_t3_loop.trips) (x : S16.Idx) :
    inv (rowOf ck g) x = Ideal.div ((255 : ℝ) : EReal) (∑ c, px ck (pix g x) c) := by
  have e : ∀ c, ex (rowOf ck g c) x = px ck (pix g x) c := fun c => ex_at ck g c x
  show Ideal.div (FloatOps.ofBits .f32 0x437F0000#32 : Ideal .f32)
    ((((((ex (rowOf ck g 0) x + ex (rowOf ck g 1) x : EReal) + (ex (rowOf ck g 2) x + ex (rowOf ck g 3) x))
      + ((ex (rowOf ck g 4) x + ex (rowOf ck g 5) x) + (ex (rowOf ck g 6) x + ex (rowOf ck g 7) x)))
      + (((ex (rowOf ck g 8) x + ex (rowOf ck g 9) x) + (ex (rowOf ck g 10) x + ex (rowOf ck g 11) x))
      + ((ex (rowOf ck g 12) x + ex (rowOf ck g 13) x) + (ex (rowOf ck g 14) x + ex (rowOf ck g 15) x)))
      + ((ex (rowOf ck g 16) x + ex (rowOf ck g 17) x) + ex (rowOf ck g 18) x)) : EReal)) = _
  rw [word_255]
  simp only [e]
  congr 1
  simp only [Fin.sum_univ_succ, Fin.sum_univ_zero, add_zero]
  simp only [← add_assoc]
  rfl

theorem binOf_at (ck : Vec Ideal S19x2048 .f32) (g : Fin k0_t3_loop.trips) (c : Fin 19) (x : S16.Idx) :
    (binOf (rowOf ck g) c x).toNat = 256 * c.val + nb (px ck (pix g x)) c := by
  have hP := px_nonneg ck (pix g x)
  have h0 := qr_nonneg hP c
  have h1 := qr_le hP c
  have hc : (c.val : ℝ) ≤ 18 := by exact_mod_cast Nat.lt_succ_iff.1 c.isLt
  have hc0 : (0 : ℝ) ≤ c.val := Nat.cast_nonneg _
  show (Ideal.fptosi 32 ((ex (rowOf ck g c) x : EReal) * inv (rowOf ck g) x + (FloatOps.ofBits .f32 (binWord c) : Ideal .f32))).toNat = _
  rw [ex_at, inv_at, word_bin]
  change (Ideal.fptosi 32 (qv (px ck (pix g x)) c + _)).toNat = _
  rw [qr_coe hP, ← EReal.coe_add, toNat_fptosi (by linarith) (by norm_num; linarith), nb]
  rw [show qr (px ck (pix g x)) c + (256 * (c.val : ℝ) + 1 / 2) = (qr (px ck (pix g x)) c + 1 / 2) + ((256 * c.val : ℕ) : ℝ) by push_cast; ring,
    Nat.floor_add_natCast (by linarith)]
  omega

/-- Labels in range at a chunk. -/
def InRange (lb : Vec Ideal S2048 .i32) : Prop := ∀ p : Fin 2048, (lb (ix1 p)).toNat < 19

/-- The class at a pixel. -/
def cls {lb : Vec Ideal S2048 .i32} (hl : InRange lb) (p : Fin 2048) : Fin 19 := ⟨(lb (ix1 p)).toNat, hl p⟩

variable {ck : Vec Ideal S19x2048 .f32} {lb : Vec Ideal S2048 .i32}

theorem gather_ok (hl : InRange lb) (g : Fin k0_t3_loop.trips) : k0_chk20 (lblOf (F := Ideal) lb g) (posOf g) := by
  intro a x
  fin_cases a
  · show (lblOf (F := Ideal) lb g x).toNat < 19
    rw [lblOf_at]; exact hl _
  · show (posOf g x).toNat < 2048
    rw [posOf_at]; exact (pix g x).isLt

theorem own_at (hl : InRange lb) (g : Fin k0_t3_loop.trips) (x : S16.Idx) :
    own ck (lblOf (F := Ideal) lb g) (posOf g) x = ck (ix2 (cls hl (pix g x)) (pix g x)) := by
  rw [own_pos _ _ _ (gather_ok hl g)]
  refine congrArg ck (funext fun a => Fin.ext ?_)
  fin_cases a
  · show (lblOf (F := Ideal) lb g x).toNat = _
    rw [lblOf_at]; rfl
  · exact posOf_at g x

theorem lbl_real (hl : InRange lb) (p : Fin 2048) : (((lb (ix1 p)).toInt : ℝ)) = ((cls hl p).val : ℝ) := by
  have h := hl p
  have : (lb (ix1 p)).toInt = ((lb (ix1 p)).toNat : ℤ) := by
    rw [BitVec.toInt_eq_toNat_cond, if_pos (by omega)]
  rw [this]; rfl

theorem bg_at (hl : InRange lb) (g : Fin k0_t3_loop.trips) (x : S16.Idx) :
    (k0_pay44 (lblOf (F := Ideal) lb g) (inv (rowOf ck g)) (own ck (lblOf (F := Ideal) lb g) (posOf g)) x).toNat
      = 256 * (cls hl (pix g x)).val + nb (px ck (pix g x)) (cls hl (pix g x)) := by
  set c := cls hl (pix g x) with hcd
  have hP := px_nonneg ck (pix g x)
  have h0 := qr_nonneg hP c
  have h1 := qr_le hP c
  have hc : (c.val : ℝ) ≤ 18 := by exact_mod_cast Nat.lt_succ_iff.1 c.isLt
  have hc0 : (0 : ℝ) ≤ c.val := Nat.cast_nonneg _
  show (Ideal.fptosi 32 (((Ideal.exp (own ck (lblOf (F := Ideal) lb g) (posOf g) x) * inv (rowOf ck g) x : EReal)
    + (FloatOps.ofBits .f32 0x3F000000#32 : Ideal .f32)) + (((lblOf (F := Ideal) lb g x).toInt : ℝ) : EReal) * (FloatOps.ofBits .f32 0x43800000#32 : Ideal .f32))).toNat = _
  rw [own_at hl, inv_at, lblOf_at, lbl_real hl, word_half, word_256]
  change (Ideal.fptosi 32 ((qv (px ck (pix g x)) c + _) + _)).toNat = _
  rw [qr_coe hP, ← EReal.coe_add, ← EReal.coe_mul, ← EReal.coe_add, toNat_fptosi (by positivity) (by norm_num; linarith), nb]
  rw [show qr (px ck (pix g x)) c + 1 / 2 + (c.val : ℝ) * 256 = (qr (px ck (pix g x)) c + 1 / 2) + ((256 * c.val : ℕ) : ℝ) by push_cast; ring,
    Nat.floor_add_natCast (by linarith)]
  omega

theorem fg_at (hl : InRange lb) (g : Fin k0_t3_loop.trips) (x : S16.Idx) :
    (k0_pay45 (lblOf (F := Ideal) lb g) (inv (rowOf ck g)) (own ck (lblOf (F := Ideal) lb g) (posOf g)) x).toNat
      = 4864 + 256 * (cls hl (pix g x)).val + nf (px ck (pix g x)) (cls hl (pix g x)) := by
  set c := cls hl (pix g x) with hcd
  have hP := px_nonneg ck (pix g x)
  have h0 := qr_nonneg hP c
  have h1 := qr_le hP c
  have hc : (c.val : ℝ) ≤ 18 := by exact_mod_cast Nat.lt_succ_iff.1 c.isLt
  have hc0 : (0 : ℝ) ≤ c.val := Nat.cast_nonneg _
  show (Ideal.fptosi 32 (((FloatOps.ofBits .f32 0x459FFC00#32 : Ideal .f32) + (((lblOf (F := Ideal) lb g x).toInt : ℝ) : EReal) * (FloatOps.ofBits .f32 0x43800000#32 : Ideal .f32) : EReal)
    - (Ideal.exp (own ck (lblOf (F := Ideal) lb g) (posOf g) x) * inv (rowOf ck g) x : EReal))).toNat = _
  rw [own_at hl, inv_at, lblOf_at, lbl_real hl, word_fg, word_256]
  change (Ideal.fptosi 32 ((_ + _) - qv (px ck (pix g x)) c)).toNat = _
  rw [qr_coe hP, ← EReal.coe_mul, ← EReal.coe_add, ← EReal.coe_sub, toNat_fptosi (by linarith) (by norm_num; linarith), nf]
  rw [show 5119 + 1 / 2 + (c.val : ℝ) * 256 - qr (px ck (pix g x)) c = (511 / 2 - qr (px ck (pix g x)) c) + ((4864 + 256 * c.val : ℕ) : ℝ) by push_cast; ring,
    Nat.floor_add_natCast (by linarith)]
  omega

theorem chk1_of {v : IVec S16 32} (h : ∀ x, (v x).toNat < 9728) : k0_chk1 v := by
  intro a x; fin_cases a; exact h x

/-- Every index of the group is in range. -/
theorem ok (hl : InRange lb) (g : Fin k0_t3_loop.trips) : Ok ck lb g where
  bin c := chk1_of fun x => by
    rw [binOf_at]; have := nb_le (px_nonneg ck (pix g x)) c; have := c.isLt; omega
  gather := gather_ok hl g
  bg := chk1_of fun x => by
    rw [bg_at hl]; have := nb_le (px_nonneg ck (pix g x)) (cls hl (pix g x)); have := (cls hl (pix g x)).isLt; omega
  fg := chk1_of fun x => by
    rw [fg_at hl]; have := nf_le (px_nonneg ck (pix g x)) (cls hl (pix g x)); have := (cls hl (pix g x)).isLt; omega

end Cert.Proof.Bins
-- ==== Proof.Frames.lean ====
/-
  What the preconditions say of the arguments, and the frames: the kernel's run (Proof/Main.lean) with its index checks met
  by the labels' range, and the reference's run.
-/
module

public import proofs.«01_k».proof.Defs
public import proofs.«01_k».proof.Proof.Main
public import proofs.«01_k».proof.Proof.Bins
public import proofs.«01_k».proof.Proof.Gen.ReferenceIdeal
public import proofs.«01_k».proof.Proof.Gen.ReferenceIdeal.Run
public import proofs.«01_k».proof.Proof.Gen.Pre_labels_in_range
public import Idealize.ShloMosaic.Lib.Affine

@[expose] public section

noncomputable section

namespace Cert.Proof

open Cert.KernelIdeal Cert.KernelIdeal.Gen
open Idealize.ShloMosaic Idealize.SL.Sem
open Cert.Proof.Main Cert.Proof.Tile

/-! ## The preconditions read at an element -/

theorem range_of_word {x : BitVec 32} (h : IntOp.andi (IntOp.cmpi .sge x 0#32) (IntOp.cmpi .slt x 19#32) = 1#1) : x.toNat < 19 := by
  obtain ⟨h1, h2⟩ := IntOp.andi_eq_one.1 h
  have h1' : (0#32).sle x = true := by
    rw [← Bool.not_eq_false]; intro hc; simp only [IntOp.cmpi, hc] at h1; exact absurd h1 (by decide)
  have h2' : x.slt 19#32 = true := by
    rw [← Bool.not_eq_false]; intro hc; simp only [IntOp.cmpi, hc] at h2; exact absurd h2 (by decide)
  simp only [BitVec.sle_eq_decide, BitVec.slt_eq_decide, decide_eq_true_eq, BitVec.toInt_eq_toNat_cond, BitVec.toNat_ofNat,
    Nat.reducePow, Nat.reduceMod] at h1' h2'
  have := x.isLt
  split_ifs at h1' h2' <;> omega

section

variable {m : (ℓ : Loc nD τ sig) → Buf (Elt Ideal) ℓ}

/-- The labels of every device are classes. -/
def Labels (m : (ℓ : Loc nD τ sig) → Buf (Elt Ideal) ℓ) : Prop :=
  ∀ (d : Dev nD) (i : S4x512x512.Idx), ((m (tLoc d) : IVec S4x512x512 32) i).toNat < 19

theorem labels_of_pre (h : Cert.Pre_KernelIdeal (hPre_labels_in_range := Cert.Pre_labels_in_range.Gen.facts) m) : Labels m :=
  fun d i => range_of_word (congrFun (h d) i)

theorem inRange (h : Labels m) (d : Dev nD) (i : grid0.Coords) (n : ℕ) : Bins.InRange (lbOf (F := Ideal) (BV m d) i n) :=
  fun _ => h d _

theorem run_kernel (h : Labels m) (ρ : Dev nD → PrngReg) :
    θ_run (defs (F := Ideal)) (threads (F := Ideal)) ⟨m, fun _ => 0, ρ⟩ (QC m) :=
  haveI : ∀ e, Nonempty (Elt Ideal e) := fun e => by cases e <;> exact ⟨(0 : _)⟩
  run_main m ρ fun d i n g => Bins.ok (inRange h d i n) g

end

/-! ## The frames -/

theorem frame_k : Cert.quiescent_KernelIdeal (hKernelIdeal := Cert.KernelIdeal.Gen.facts) (hPre_labels_in_range := Cert.Pre_labels_in_range.Gen.facts) :=
  fun _ ρ h => (θ_run _ _ _).mono (fun _ hr => ⟨fun c => ⟨(hr.1 c).1, (hr.1 c).2.1⟩, hr.2⟩) (run_kernel (labels_of_pre h) ρ)

theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m ρ)

theorem frame_r : Cert.quiescent_ReferenceIdeal (hReferenceIdeal := Cert.ReferenceIdeal.Gen.facts) := fun m ρ _ => run_reference m ρ

end Cert.Proof

end
-- ==== Proof.Full.lean ====
/-
  The second precondition read at an element: the logits are reals as well as the labels classes; and the frames under it.
-/
module

public import proofs.«01_k».proof.Proof.Frames
public import proofs.«01_k».proof.Proof.Gen.Pre_finite_and_labels_in_range
public import Idealize.ShloMosaic.Lib.ReduceAll

@[expose] public section

noncomputable section

namespace Cert.Proof

open Cert.KernelIdeal Cert.KernelIdeal.Gen
open Idealize.ShloMosaic Idealize.SL.Sem
open Cert.Proof.Main Cert.Proof.Tile

theorem real_of_word {x : EReal} (h : Ideal.cmp .olt (FloatOps.absf (F := Ideal) (φ := .f32) x) (FloatOps.ofBits .f32 0x7F800000#32 : Ideal .f32) = 1#1) :
    ∃ r : ℝ, x = (r : EReal) := by
  have e : (FloatOps.ofBits .f32 0x7F800000#32 : Ideal .f32) = (⊤ : EReal) := by simp [Ideal.ofBits, Ideal.ieee]
  rw [e] at h
  have h' : FloatOps.absf (F := Ideal) (φ := .f32) x < (⊤ : EReal) := by
    by_contra hc; simp only [Ideal.cmp, hc, decide_false] at h; exact absurd h (by decide)
  induction x with
  | bot => exact absurd h' (by show ¬ (max (⊥ : EReal) (-⊥) < ⊤); simp)
  | top => exact absurd h' (by show ¬ (max (⊤ : EReal) (-⊤) < ⊤); simp)
  | coe r => exact ⟨r, rfl⟩

section

variable {m : (ℓ : Loc nD τ sig) → Buf (Elt Ideal) ℓ}

/-- The logits of every device are reals. -/
def Finite (m : (ℓ : Loc nD τ sig) → Buf (Elt Ideal) ℓ) : Prop :=
  ∀ (d : Dev nD) (i : S4x19x512x512.Idx), ∃ r : ℝ, (m (aLoc d) : FVec Ideal S4x19x512x512 .f32) i = (r : EReal)

theorem all_of_pre (h : Cert.Pre_KernelIdeal_finite_and_labels_in_range
    (hPre_finite_and_labels_in_range := Cert.Pre_finite_and_labels_in_range.Gen.facts) m) : Finite m ∧ Labels m := by
  haveI : Subsingleton Cert.Pre_finite_and_labels_in_range.S_.Idx := ⟨fun a b => funext fun k => Fin.elim0 k⟩
  have key (d : Dev nD) := IntOp.andi_eq_one.1 (congrFun (h d) (fun k => Fin.elim0 k))
  exact ⟨fun d i => real_of_word (Host.reduce_andi_all _ _ _ _ _ (key d).1 i),
    fun d i => range_of_word (Host.reduce_andi_all _ _ _ _ _ (key d).2 i)⟩

end

theorem frame_k' : Cert.quiescent_KernelIdeal_pre_finite_and_labels_in_range (hKernelIdeal := Cert.KernelIdeal.Gen.facts)
    (hPre_finite_and_labels_in_range := Cert.Pre_finite_and_labels_in_range.Gen.facts) :=
  fun _ ρ h => (θ_run _ _ _).mono (fun _ hr => ⟨fun c => ⟨(hr.1 c).1, (hr.1 c).2.1⟩, hr.2⟩) (run_kernel (all_of_pre h).2 ρ)

theorem frame_r' : Cert.quiescent_ReferenceIdeal_pre_finite_and_labels_in_range (hReferenceIdeal := Cert.ReferenceIdeal.Gen.facts)
    (hPre_finite_and_labels_in_range := Cert.Pre_finite_and_labels_in_range.Gen.facts) := fun m ρ _ => run_reference m ρ

end Cert.Proof

end
-- ==== Proof.Hist.lean ====
/-
  The histogram a tile leaves, over the reals: every bin is the sum, over the tile's pixels, of what the pixel adds there —
  one at each class's level, less one at the own class's, one at the own class's level in the second half.
-/
module

public import proofs.«01_k».proof.Proof.Bins
public import proofs.«01_k».proof.Proof.Sc

@[expose] public section

noncomputable section

namespace Cert.Proof.Hist

open Cert.KernelIdeal Cert.KernelIdeal.Gen
open Idealize.ShloMosaic
open Idealize.ShloMosaic.ValueIdx
open Cert.Proof.Tile Cert.Proof.Bins

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A scatter -/

/-- A histogram of reals. -/
def re (f : S9728.Idx → ℝ) : Vec Ideal S9728 .f32 := fun j => ((f j : ℝ) : EReal)

theorem foldl_re {ι : Type} (step : Vec Ideal S9728 .f32 → ι → Vec Ideal S9728 .f32) (a : ι → S9728.Idx → ℝ)
    (h : ∀ f k, step (re f) k = re fun j => f j + a k j) (l : List ι) (f : S9728.Idx → ℝ) :
    l.foldl step (re f) = re fun j => f j + (l.map fun k => a k j).sum := by
  induction l generalizing f with
  | nil => funext j; simp [re]
  | cons k l ih =>
      rw [List.foldl_cons, h, ih]
      funext j
      simp only [re, List.map_cons, List.sum_cons, add_assoc]

/-- The bin a lane names is the bin looked at. -/
theorem hits (idx : IVec S16 32) (hc : k0_chk1 idx) (x : S16.Idx) (j : S9728.Idx) :
    (∀ a, (j a).val = (idxAt ![idx] (k0_idx1_inb idx hc) x a).val) ↔ (idx x).toNat = (j 0).val :=
  ⟨fun h => (h 0).symm, fun h a => by fin_cases a; exact h.symm⟩

theorem one_scat (f : S9728.Idx → ℝ) (w : ℝ) (v : FVec Ideal S16 .f32) (hv : ∀ x, v x = (w : EReal)) (idx : IVec S16 32)
    (hc : k0_chk1 idx) (x : S16.Idx) :
    (fun j => if (∀ a, (j a).val = (idxAt ![idx] (k0_idx1_inb idx hc) x a).val) then
        (re f (idxAt ![idx] (k0_idx1_inb idx hc) x) + v x : EReal) else re f j)
      = re fun j => f j + if (idx x).toNat = (j 0).val then w else 0 := by
  funext j
  by_cases h : (idx x).toNat = (j 0).val
  · have hj := (hits idx hc x j).2 h
    have ei : idxAt ![idx] (k0_idx1_inb idx hc) x = j := funext fun a => Fin.ext (hj a).symm
    rw [if_pos hj, ei, hv]
    simp only [re, if_pos h, EReal.coe_add]
  · rw [if_neg fun h' => h ((hits idx hc x j).1 h')]
    simp only [re, if_neg h, add_zero]

theorem scat_re (f : S9728.Idx → ℝ) (w : ℝ) (v : FVec Ideal S16 .f32) (hv : ∀ x, v x = (w : EReal)) (idx : IVec S16 32)
    (hc : k0_chk1 idx) :
    scat (re f) v idx = re fun j => f j + ∑ k : Fin 16, if (idx (ix1 k)).toNat = (j 0).val then w else 0 := by
  rw [scat_pos _ _ _ hc]
  unfold storeIdx
  have hx (k : Fin 16) : (Shape.ofLane (d := ![16]) k : S16.Idx) = ix1 k := by funext a; fin_cases a; rfl
  refine (foldl_re _ (fun (k : Fin 16) j => if (idx (ix1 k)).toNat = (j 0).val then w else 0) (fun f k => ?_) (List.finRange 16) f).trans ?_
  · refine Eq.trans ?_ (one_scat f w v hv idx hc (ix1 k))
    rw [← hx]
    dsimp only
    rw [if_pos (show (1#1 : BitVec 1) = 1 from rfl)]
    simp only [if_true]
    rfl
  · funext j
    simp only [re, Fin.sum_univ_def]

/-! ## A group -/

/-- What a pixel with exponentials `P` and label `l` adds to bin `j`. -/
def con (P : Fin 19 → EReal) (l : Fin 19) (j : ℕ) : ℝ :=
  (∑ c : Fin 19, if 256 * c.val + nb P c = j then 1 else 0) + (if 256 * l.val + nb P l = j then -1 else 0)
    + (if 4864 + 256 * l.val + nf P l = j then 1 else 0)

theorem con_bg {P : Fin 19 → EReal} (hP : ∀ c, 0 ≤ P c) (l c : Fin 19) {b : ℕ} (hb : b < 256) :
    con P l (256 * c.val + b) = if l ≠ c ∧ nb P c = b then 1 else 0 := by
  unfold con
  have hl := l.isLt
  have hc := c.isLt
  have h3 : ¬ 4864 + 256 * l.val + nf P l = 256 * c.val + b := by omega
  rw [if_neg h3, Finset.sum_eq_single c (fun c' _ hc' => if_neg fun h => hc' (Fin.ext (by have := nb_le hP c'; omega)))
    (fun h => absurd (Finset.mem_univ c) h), add_zero]
  by_cases hlc : l = c
  · subst hlc
    by_cases h : nb P l = b
    · rw [if_pos (by omega), if_pos (by omega), if_neg (by simp)]; norm_num
    · rw [if_neg (by omega), if_neg (by omega), if_neg (by simp)]; norm_num
  · have : ¬ 256 * l.val + nb P l = 256 * c.val + b := fun h => hlc (Fin.ext (by have := nb_le hP l; omega))
    rw [if_neg this, add_zero]
    by_cases h : nb P c = b
    · rw [if_pos (by omega), if_pos ⟨hlc, h⟩]
    · rw [if_neg (by omega), if_neg (fun h' => h h'.2)]

theorem con_fg {P : Fin 19 → EReal} (hP : ∀ c, 0 ≤ P c) (l c : Fin 19) {b : ℕ} (hb : b < 256) :
    con P l (4864 + 256 * c.val + b) = if l = c ∧ nf P c = b then 1 else 0 := by
  unfold con
  have hl := l.isLt
  have hc := c.isLt
  rw [Finset.sum_eq_zero fun c' _ => if_neg (by have := nb_le hP c'; have := c'.isLt; omega),
    if_neg (by have := nb_le hP l; omega), zero_add, zero_add]
  by_cases hlc : l = c
  · subst hlc
    by_cases h : nf P l = b
    · rw [if_pos (by omega), if_pos ⟨rfl, h⟩]
    · rw [if_neg (by omega), if_neg (fun h' => h h'.2)]
  · rw [if_neg (fun h => hlc (Fin.ext (by have := nf_le hP l; omega))), if_neg (fun h' => hlc h'.1)]

variable {ck : Vec Ideal S19x2048 .f32} {lb : Vec Ideal S2048 .i32}

theorem pay92_at (x : S16.Idx) : (k0_pay92 (F := Ideal)) x = ((1 : ℝ) : EReal) := by
  show (FloatOps.ofBits .f32 0x3F800000#32 : Ideal .f32) = _
  rw [EReal.coe_one]; exact Ideal.ofBits_one_f32

theorem pay93_at (x : S16.Idx) : (k0_pay93 (F := Ideal)) x = ((-1 : ℝ) : EReal) := by
  show (FloatOps.ofBits .f32 0x00000000#32 : Ideal .f32) - k0_pay92 (F := Ideal) x = _
  rw [pay92_at, show (FloatOps.ofBits .f32 0x00000000#32 : Ideal .f32) = ((0 : ℝ) : EReal) from Ideal.ofBits_zero_f32, ← EReal.coe_sub]
  norm_num

theorem rows_re (g : Fin k0_t3_loop.trips) (l : List (Fin 19)) (f : S9728.Idx → ℝ) :
    l.foldl (fun h c => scat h k0_pay92 (binOf (rowOf ck g) c)) (re f)
      = re fun j => f j + (l.map fun c => ∑ k : Fin 16, if 256 * c.val + nb (px ck (pix g (ix1 k))) c = (j 0).val then (1 : ℝ) else 0).sum := by
  refine foldl_re _ (fun c j => ∑ k : Fin 16, if 256 * c.val + nb (px ck (pix g (ix1 k))) c = (j 0).val then (1 : ℝ) else 0) (fun f c => ?_) l f
  rw [scat_re f 1 _ pay92_at _ (chk1_of fun x => by
    rw [binOf_at]; have := nb_le (px_nonneg ck (pix g x)) c; have := c.isLt; omega)]
  simp only [binOf_at]

theorem grp_re (hl : InRange lb) (g : Fin k0_t3_loop.trips) (f : S9728.Idx → ℝ) :
    grp ck lb g (re f) = re fun j => f j + ∑ k : Fin 16, con (px ck (pix g (ix1 k))) (cls hl (pix g (ix1 k))) (j 0).val := by
  have h := ok (ck := ck) hl g
  unfold grp
  simp only
  rw [rows_re, scat_re _ (-1) _ pay93_at _ h.bg, scat_re _ 1 _ pay92_at _ h.fg]
  funext j
  simp only [re, bg_at hl, fg_at hl]
  congr 1
  simp only [con, Finset.sum_add_distrib]
  rw [Finset.sum_comm, Fin.sum_univ_def (n := 19)]
  ring

/-! ## A chunk -/

/-- What pixel `q` of a chunk adds to bin `j`. -/
def conC (ck : Vec Ideal S19x2048 .f32) (hl : InRange lb) (j q : ℕ) : ℝ :=
  if h : q < 2048 then con (px ck ⟨q, h⟩) (cls hl ⟨q, h⟩) j else 0

theorem grps_re (hl : InRange lb) (f : S9728.Idx → ℝ) : ∀ n, n ≤ k0_t3_loop.trips →
    grps ck lb (re f) n = re fun j => f j + ∑ q ∈ Finset.range (16 * n), conC ck hl (j 0).val q
  | 0, _ => by funext j; simp [re, grps]
  | n + 1, hn => by
      have hn' : n < k0_t3_loop.trips := hn
      rw [grps, dif_pos hn', grps_re hl f n (by omega), grp_re hl]
      funext j
      simp only [re]
      rw [show 16 * (n + 1) = 16 * n + 16 by ring, Finset.sum_range_add, add_assoc, Finset.sum_range (n := 16)]
      congr 3
      refine Finset.sum_congr rfl fun k _ => ?_
      have hlt := trips_lt ⟨n, hn'⟩
      have hk := k.isLt
      rw [conC, dif_pos (show 16 * n + k.val < 2048 by change n < 128 at hlt; omega)]
      rfl

theorem trips_eq : k0_t3_loop.trips = 128 := by decide +kernel

theorem chunk_re (hl : InRange lb) (f : S9728.Idx → ℝ) :
    chunk ck lb (re f) = re fun j => f j + ∑ q ∈ Finset.range 2048, conC ck hl (j 0).val q := by
  unfold chunk
  rw [grps_re hl f _ le_rfl, trips_eq]

/-! ## A tile -/

section

variable {X : Vec Ideal S4x19x262144 .f32} {B : Vec Ideal S4x262144 .i32} (hB : ∀ y, ((B : IVec S4x262144 32) y).toNat < 19)

/-- The exponentials at pixel `q` of image `b`. -/
def pxI (X : Vec Ideal S4x19x262144 .f32) (b : Fin 4) (q : Fin 262144) (c : Fin 19) : EReal := Ideal.exp (X (ix3 b c q))

theorem pxI_nonneg (b : Fin 4) (q : Fin 262144) (c : Fin 19) : 0 ≤ pxI X b q c := exp_nonneg _

/-- The class of pixel `q` of image `b`. -/
def clsI (b : Fin 4) (q : Fin 262144) : Fin 19 := ⟨((B : IVec S4x262144 32) (ix2 b q)).toNat, hB _⟩

/-- What pixel `q` of image `b` adds to bin `j`. -/
def conI (X : Vec Ideal S4x19x262144 .f32) (b : Fin 4) (j q : ℕ) : ℝ :=
  if h : q < 262144 then con (pxI X b ⟨q, h⟩) (clsI hB b ⟨q, h⟩) j else 0

include hB in
theorem inRange_lb (i : grid0.Coords) (n : ℕ) : InRange (lbOf (F := Ideal) B i n) := fun _ => hB _

theorem conC_eq (i : grid0.Coords) (n j q : ℕ) (hq : q < 2048) :
    conC (ckOf X i n) (inRange_lb hB i n) j q = conI hB X (img i) j (base i n + q) := by
  have := base_le i n
  rw [conC, dif_pos hq, conI, dif_pos (by omega)]
  rfl

theorem hists_re (i : grid0.Coords) (n : ℕ) (hn : n ≤ 16) :
    hists X B i n = re fun j => ∑ q ∈ Finset.range (2048 * n), conI hB X (img i) (j 0).val (base i 0 + q) := by
  induction n with
  | zero =>
      funext j
      show (FloatOps.ofBits .f32 0x00000000#32 : Ideal .f32) = _
      rw [show (FloatOps.ofBits .f32 0x00000000#32 : Ideal .f32) = (0 : EReal) from Ideal.ofBits_zero_f32]
      simp [re]
  | succ n ih =>
      rw [hists, ih (by omega), chunk_re (inRange_lb hB i n)]
      refine congrArg re (funext fun j => ?_)
      rw [Nat.mul_succ, Finset.sum_range_add]
      refine congrArg (_ + ·) (Finset.sum_congr rfl fun q hq => ?_)
      rw [conC_eq hB i n _ q (Finset.mem_range.1 hq)]
      refine congrArg (conI hB X (img i) (j 0).val) ?_
      unfold base
      omega

/-- Row `w` of the result at bin `j`. -/
theorem outB_re (w : Fin 32) (j : Fin 9728) :
    outB X B (ix2 w j) = ((∑ q ∈ Finset.range 32768,
      conI hB X ⟨w.val / 8, by have := w.isLt; omega⟩ j.val (w.val % 8 * 32768 + q) : ℝ) : EReal) := by
  have hw : 2 * ((tileOf w) 1).val + ((tileOf w) 0).val = w.val := by
    show 2 * (w.val / 2) + w.val % 2 = w.val; exact Nat.div_add_mod _ _
  show hists X B (tileOf w) 16 (ix1 j) = _
  rw [hists_re hB (tileOf w) 16 le_rfl]
  have e1 : img (tileOf w) = ⟨w.val / 8, by have := w.isLt; omega⟩ := Fin.ext (congrArg (· / 8) hw)
  have e2 : base (tileOf w) 0 = w.val % 8 * 32768 := by unfold base; rw [hw]; simp
  simp only [re]
  rw [e1, e2]

/-- Eight tiles make an image. -/
theorem tiles_sum (f : ℕ → ℝ) (n : ℕ) : ∑ t ∈ Finset.range n, ∑ q ∈ Finset.range 32768, f (t * 32768 + q) = ∑ q ∈ Finset.range (n * 32768), f q := by
  induction n with
  | zero => simp
  | succ n ih => rw [Finset.sum_range_succ, ih, show (n + 1) * 32768 = n * 32768 + 32768 by ring, Finset.sum_range_add]

end

end Cert.Proof.Hist
-- ==== Proof.FinVal.lean ====
/-
  The number the finishing kernel writes, over the reals: from the histograms of every tile the Jaccard loss at every
  level, its sum over the levels, and the mean over the classes present and over the images.
-/
module

public import proofs.«01_k».proof.Proof.Fin
public import proofs.«01_k».proof.Proof.Hist
public import Idealize.ShloMosaic.Lib.MatmulPlain

@[expose] public section

noncomputable section

namespace Cert.Proof.FinVal

open Cert.KernelIdeal Cert.KernelIdeal.Gen Cert.Proof.Hist
open Idealize.ShloMosaic
open Idealize.ShloMosaic.ValueIdx

theorem div_re {a b : ℝ} (hb : b ≠ 0) : Ideal.div (a : EReal) (b : EReal) = ((a / b : ℝ) : EReal) := by
  rw [Ideal.div_coe hb, ← EReal.coe_mul]; congr 1; ring

theorem max_re (a b : ℝ) : max (a : EReal) (b : EReal) = ((max a b : ℝ) : EReal) := (EReal.coe_strictMono.monotone.map_max).symm

theorem one_word : (FloatOps.ofBits .f32 0x3F800000#32 : Ideal .f32) = ((1 : ℝ) : EReal) := by
  rw [EReal.coe_one]; exact Ideal.ofBits_one_f32

theorem zero_word : (FloatOps.ofBits .f32 0x00000000#32 : Ideal .f32) = ((0 : ℝ) : EReal) := Ideal.ofBits_zero_f32

theorem word_255 : (FloatOps.ofBits .f32 0x437F0000#32 : Ideal .f32) = ((255 : ℝ) : EReal) := by
  simp [Ideal.ofBits, Ideal.ieee, -EReal.coe_mul]; norm_num

theorem word_4 : (FloatOps.ofBits .f32 0x40800000#32 : Ideal .f32) = ((4 : ℝ) : EReal) := by
  simp [Ideal.ofBits, Ideal.ieee, -EReal.coe_mul]; norm_num

variable {X : Vec Ideal S1216x256 .f32} (H : Fin 4 → Fin 8 → Fin 38 → Fin 256 → ℝ)

/-- The array holds the histograms `H`, tile after tile. -/
def Holds (X : Vec Ideal S1216x256 .f32) (H : Fin 4 → Fin 8 → Fin 38 → Fin 256 → ℝ) : Prop :=
  ∀ (b : Fin 4) (t : Fin 8) (k : Fin 38) (i : Fin 256),
    X (ix2 ⟨b.val * 304 + t.val * 38 + k.val, by have := b.isLt; have := t.isLt; have := k.isLt; omega⟩ i) = ((H b t k i : ℝ) : EReal)

/-- An image's histogram. -/
def hs (b : Fin 4) (k : Fin 38) (i : Fin 256) : ℝ := ∑ t : Fin 8, H b t k i

/-- Pixels of other classes, and of the class, at level `j` or above. -/
def s0 (b : Fin 4) (c : Fin 19) (j : ℕ) : ℝ := ∑ i : Fin 256, if j ≤ i.val then hs H b ⟨c.val, by have := c.isLt; omega⟩ i else 0
def s1 (b : Fin 4) (c : Fin 19) (j : ℕ) : ℝ := ∑ i : Fin 256, if j ≤ i.val then hs H b ⟨c.val + 19, by have := c.isLt; omega⟩ i else 0

/-- A class's loss, whether it is present, and the number made of the losses. -/
def loss (b : Fin 4) (c : Fin 19) : ℝ :=
  ((∑ j : Fin 256, (1 - (s1 H b c 0 - s1 H b c j.val) / max (s1 H b c 0 + s0 H b c j.val) 1)) - 1) / 255
def pres (b : Fin 4) (c : Fin 19) : ℝ := if 0 < s1 H b c 0 then 1 else 0

def mean (L P : Fin 4 → Fin 19 → ℝ) : ℝ := (∑ b : Fin 4, (∑ c, L b c * P b c) / max (∑ c, P b c) 1) / 4

/-- The image and the class of row `r`. -/
def rb (r : Fin 76) : Fin 4 := ⟨r.val / 19, by have := r.isLt; omega⟩
def rc (r : Fin 76) : Fin 19 := ⟨r.val % 19, Nat.mod_lt _ (by norm_num)⟩

variable {H} (hX : Holds X H)

include hX in
theorem pay2_at (b : Fin 4) (k : Fin 38) (i : Fin 256) : k1_pay2 X (ix3 b k i) = ((hs H b k i : ℝ) : EReal) := by
  unfold k1_pay2
  dsimp only
  rw [shapeCast_self]
  refine (Ideal.multiReduction_add_single (a := 1) _ _ _ _ _ _).trans ?_
  rw [hs, coe_sum]
  refine Finset.sum_congr rfl fun t _ => ?_
  rw [← hX b t k i]
  refine shapeCast_apply _ _ _ _ ?_
  refine (Shape.rowMajor_val_two _).trans ((?_ : _ = _).trans (Shape.rowMajor_val_four _).symm)
  show (b.val * 304 + t.val * 38 + k.val) * 256 + i.val = ((b.val * 8 + t.val) * 38 + k.val) * 256 + i.val
  ring

theorem upper_word (i j : Fin 256) :
    (cmpi .sge (iota .tc S256x256 32 [0] iota_S256x256_d0_w32) (iota .tc S256x256 32 [1] iota_S256x256_d1_w32) : IVec S256x256 1) (ix2 i j)
      = BitVec.ofBool (decide (j.val ≤ i.val)) := by
  rw [WordCmp.cmpi_at, WordCmp.iota_at, WordCmp.iota_at]
  simp only [List.foldl_cons, List.foldl_nil, Nat.zero_mul, Nat.zero_add]
  exact WordCmp.cmpi_sge_ofNat (w := 32) (a := i.val) (b := j.val) (by have := i.isLt; omega) (by have := j.isLt; omega)

/-- A bit as a number. -/
theorem bit_re (p : Prop) [Decidable p] :
    (FloatOps.sitofp .f32 ((BitVec.ofBool (decide p)).setWidth 32) : Ideal .f32) = (((if p then 1 else 0 : ℝ)) : EReal) := by
  by_cases h : p
  · rw [if_pos h, decide_eq_true h]
    show (((((BitVec.ofBool true).setWidth 32).toInt : ℝ)) : EReal) = _
    rw [show ((BitVec.ofBool true).setWidth 32).toInt = 1 from by decide]; norm_num
  · rw [if_neg h, decide_eq_false h]
    show (((((BitVec.ofBool false).setWidth 32).toInt : ℝ)) : EReal) = _
    rw [show ((BitVec.ofBool false).setWidth 32).toInt = 0 from by decide]; norm_num

theorem upper_at (i j : Fin 256) : (k1_pay3 (F := Ideal)) (ix2 i j) = (((if j.val ≤ i.val then 1 else 0 : ℝ)) : EReal) := by
  rw [← bit_re, ← upper_word]
  rfl

/-- The rows of one half of the histograms, times the triangle: the bins from `j` on. -/
theorem above_at (off : Fin 3 → ℕ) (hs' : S4x38x256.Slices off S4x19x256) (f : Fin 4 → Fin 19 → Fin 256 → ℝ)
    (hf : ∀ b c i, extractStridedSlice S4x19x256 off (k1_pay2 X) hs' (ix3 b c i) = ((f b c i : ℝ) : EReal)) (r : Fin 76) (j : Fin 256) :
    matmul dot_S76x256_S256x256_S76x256_1_0_0_1_n_n none
      (shapeCast S76x256 (extractStridedSlice S4x19x256 off (k1_pay2 X) hs') shapeCasts_S4x19x256_S76x256) (k1_pay3 (F := Ideal))
      (constant S76x256 .f32 0x00000000#32) (ix2 r j)
      = ((∑ i : Fin 256, (if j.val ≤ i.val then f (rb r) (rc r) i else 0) : ℝ) : EReal) := by
  refine (Ideal.matmul_plain_apply (M := 76) (K := 256) (N := 256) none _ _ _ r j).trans ?_
  rw [show (constant S76x256 .f32 0x00000000#32 : FVec Ideal S76x256 .f32) (ix2 r j) = 0 from Ideal.ofBits_zero_f32, zero_add, coe_sum]
  refine Finset.sum_congr rfl fun i _ => ?_
  rw [upper_at, shapeCast_apply _ _ _ (ix3 (rb r) (rc r) i) (by
    refine (Shape.rowMajor_val_three _).trans ((?_ : _ = _).trans (Shape.rowMajor_val_two _).symm)
    show (r.val / 19 * 19 + r.val % 19) * 256 + i.val = r.val * 256 + i.val
    rw [Nat.div_add_mod']), hf, ← EReal.coe_mul]
  split <;> simp

include hX in
theorem pay4_at (r : Fin 76) (j : Fin 256) : k1_pay4 X (ix2 r j) = ((s1 H (rb r) (rc r) j.val : ℝ) : EReal) :=
  above_at _ _ (fun b c i => hs H b ⟨c.val + 19, by have := c.isLt; omega⟩ i) (fun b c i => by
    rw [extractStridedSlice_apply _ _ _ _ (ix3 b ⟨c.val + 19, by have := c.isLt; omega⟩ i) (fun a => by
      match a with
      | ⟨0, _⟩ => exact (Nat.zero_add _).symm
      | ⟨1, _⟩ => exact Nat.add_comm _ _
      | ⟨2, _⟩ => exact (Nat.zero_add _).symm), pay2_at hX]) r j

include hX in
theorem low_at (r : Fin 76) (j : Fin 256) :
    matmul dot_S76x256_S256x256_S76x256_1_0_0_1_n_n none
      (shapeCast S76x256 (extractStridedSlice S4x19x256 ![0, 0, 0] (k1_pay2 X) slices_S4x38x256_o0_0_0_S4x19x256) shapeCasts_S4x19x256_S76x256)
      (k1_pay3 (F := Ideal)) (constant S76x256 .f32 0x00000000#32) (ix2 r j) = ((s0 H (rb r) (rc r) j.val : ℝ) : EReal) :=
  above_at _ _ (fun b c i => hs H b ⟨c.val, by have := c.isLt; omega⟩ i) (fun b c i => by
    rw [extractStridedSlice_apply _ _ _ _ (ix3 b ⟨c.val, by have := c.isLt; omega⟩ i) (fun a => by
      match a with
      | ⟨0, _⟩ => exact (Nat.zero_add _).symm
      | ⟨1, _⟩ => exact (Nat.zero_add _).symm
      | ⟨2, _⟩ => exact (Nat.zero_add _).symm), pay2_at hX]) r j

include hX in
theorem pay5_at (r : Fin 76) : k1_pay5 X (ix2 r 0) = ((s1 H (rb r) (rc r) 0 : ℝ) : EReal) := by
  unfold k1_pay5
  rw [extractStridedSlice_apply _ _ _ _ (ix2 r (0 : Fin 256)) (fun a => by
    match a with
    | ⟨0, _⟩ => exact (Nat.zero_add _).symm
    | ⟨1, _⟩ => rfl), pay4_at hX]
  rfl

include hX in
theorem pay7_at (r : Fin 76) : k1_pay7 X (ix2 r 0) = ((pres H (rb r) (rc r) : ℝ) : EReal) := by
  rw [pres, ← bit_re]
  show FloatOps.sitofp .f32 ((BitVec.ofBool (decide ((FloatOps.ofBits .f32 0x00000000#32 : Ideal .f32) < k1_pay5 X (ix2 r 0)))).setWidth 32) = _
  rw [pay5_at hX, zero_word]
  simp only [EReal.coe_lt_coe_iff]

include hX in
theorem bcast_at (r : Fin 76) (j : Fin 256) :
    broadcastTo S76x256 (k1_pay5 X) broadcasts_S76x1_S76x256 (ix2 r j) = ((s1 H (rb r) (rc r) 0 : ℝ) : EReal) := by
  rw [broadcastTo_apply _ _ _ (ix2 r (0 : Fin 1)) (fun a => by
    match a with
    | ⟨0, _⟩ => rfl
    | ⟨1, _⟩ => rfl), pay5_at hX]

/-- The Jaccard losses, a row each class of an image, a column each level. -/
def jacs (X : Vec Ideal S1216x256 .f32) : FVec Ideal S76x256 .f32 :=
  subf (broadcast S76x256 (Scalar.ofBits .f32 0x3F800000#32))
    (divf (subf (broadcastTo S76x256 (k1_pay5 X) broadcasts_S76x1_S76x256) (k1_pay4 X))
      (maximumf
        (addf (broadcastTo S76x256 (k1_pay5 X) broadcasts_S76x1_S76x256)
          (matmul dot_S76x256_S256x256_S76x256_1_0_0_1_n_n none
            (shapeCast S76x256 (extractStridedSlice S4x19x256 ![0, 0, 0] (k1_pay2 X) slices_S4x38x256_o0_0_0_S4x19x256) shapeCasts_S4x19x256_S76x256)
            (k1_pay3 (F := Ideal)) (constant S76x256 .f32 0x00000000#32)))
        (broadcast S76x256 (Scalar.ofBits .f32 0x3F800000#32))))

include hX in
theorem jacs_at (r : Fin 76) (j : Fin 256) : jacs X (ix2 r j)
    = ((1 - (s1 H (rb r) (rc r) 0 - s1 H (rb r) (rc r) j.val) / max (s1 H (rb r) (rc r) 0 + s0 H (rb r) (rc r) j.val) 1 : ℝ) : EReal) := by
  show (FloatOps.ofBits .f32 0x3F800000#32 : Ideal .f32) - Ideal.div (broadcastTo S76x256 (k1_pay5 X) broadcasts_S76x1_S76x256 (ix2 r j) - k1_pay4 X (ix2 r j))
    (max (broadcastTo S76x256 (k1_pay5 X) broadcasts_S76x1_S76x256 (ix2 r j) + matmul dot_S76x256_S256x256_S76x256_1_0_0_1_n_n none
      (shapeCast S76x256 (extractStridedSlice S4x19x256 ![0, 0, 0] (k1_pay2 X) slices_S4x38x256_o0_0_0_S4x19x256) shapeCasts_S4x19x256_S76x256)
      (k1_pay3 (F := Ideal)) (constant S76x256 .f32 0x00000000#32) (ix2 r j)) (FloatOps.ofBits .f32 0x3F800000#32 : Ideal .f32)) = _
  rw [bcast_at hX, low_at hX, pay4_at hX, one_word, ← EReal.coe_sub, ← EReal.coe_add, max_re,
    div_re (ne_of_gt (lt_of_lt_of_le one_pos (le_max_right _ _))), ← EReal.coe_sub]

include hX in
theorem jacs_sum (r : Fin 76) :
    multiReduction .add [1] S76 (jacs X) 0x00000000#32 reduces_S76x256_S76 (.inl rfl) rfl (ix1 r)
      = ((∑ j : Fin 256, (1 - (s1 H (rb r) (rc r) 0 - s1 H (rb r) (rc r) j.val) / max (s1 H (rb r) (rc r) 0 + s0 H (rb r) (rc r) j.val) 1) : ℝ) : EReal) := by
  refine (Ideal.multiReduction_add_single (a := 1) _ _ _ _ _ _).trans ?_
  rw [coe_sum]
  refine Finset.sum_congr rfl fun (j : Fin 256) _ => Eq.trans (congrArg (jacs X) (funext fun a => ?_)) (jacs_at hX r j)
  match a with
  | ⟨0, _⟩ => rfl
  | ⟨1, _⟩ => rfl

include hX in
theorem pay6_at (r : Fin 76) : k1_pay6 X (ix2 r 0) = ((loss H (rb r) (rc r) : ℝ) : EReal) := by
  show Ideal.div (shapeCast S76x1 (multiReduction .add [1] S76 (jacs X) 0x00000000#32 reduces_S76x256_S76 (.inl rfl) rfl) shapeCasts_S76_S76x1 (ix2 r 0)
    - (FloatOps.ofBits .f32 0x3F800000#32 : Ideal .f32)) (FloatOps.ofBits .f32 0x437F0000#32 : Ideal .f32) = _
  rw [shapeCast_apply _ _ _ (ix1 r) (by
      refine (Shape.rowMajor_val_one _).trans ((?_ : _ = _).trans (Shape.rowMajor_val_two _).symm)
      show r.val = r.val * 1 + 0
      omega), jacs_sum hX, one_word, word_255, ← EReal.coe_sub, div_re (by norm_num), loss]

/-! ## The means -/

/-- Whether row `r` is of image `b`, as the kernel's words say it. -/
def selW : IVec S4x76 1 :=
  cmpi .eq (iota .tc S4x76 32 [0] iota_S4x76_d0_w32)
    (select (andi (cmpi .ne k1_pay9 (broadcast S4x76 (Scalar.subi (Scalar.extui (Scalar.cmpi .sgt 19#32 0#32)) (Scalar.extui (Scalar.cmpi .slt 19#32 0#32)))))
        (cmpi .ne (remsi (iota .tc S4x76 32 [1] iota_S4x76_d1_w32) (broadcast S4x76 19#32)) (broadcast S4x76 0#32)))
      (subi k1_pay8 (broadcast S4x76 1#32)) k1_pay8)

theorem selW_at : ∀ (b : Fin 4) (r : Fin 76), selW (ix2 b r) = BitVec.ofBool (decide (b = rb r)) := by decide +kernel

/-- The selector the images' sums contract with. -/
def selF : FVec Ideal S4x76 .f32 := sitofp .f32 (extui 32 selW natLt_1_32)

theorem selF_at (b : Fin 4) (r : Fin 76) : selF (ix2 b r) = (((if b = rb r then 1 else 0 : ℝ)) : EReal) := by
  rw [← bit_re, ← selW_at]
  rfl

/-- A sum over the rows of one image. -/
theorem rows_sum (b : Fin 4) (f : Fin 4 → Fin 19 → ℝ) : ∑ r : Fin 76, (if b = rb r then 1 else 0) * f (rb r) (rc r) = ∑ c, f b c := by
  have e (p : Fin 4 × Fin 19) : rb (finProdFinEquiv p) = p.1 ∧ rc (finProdFinEquiv p) = p.2 := by
    have h2 := p.2.isLt
    have h : (finProdFinEquiv p).val = p.2.val + 19 * p.1.val := rfl
    exact ⟨Fin.ext (by show (finProdFinEquiv p).val / 19 = _; omega), Fin.ext (by show (finProdFinEquiv p).val % 19 = _; omega)⟩
  refine (Equiv.sum_comp (finProdFinEquiv : Fin 4 × Fin 19 ≃ Fin 76) (fun r => (if b = rb r then 1 else 0) * f (rb r) (rc r))).symm.trans ?_
  rw [Fintype.sum_prod_type]
  simp only [(e _).1, (e _).2]
  rw [Finset.sum_eq_single b (fun b' _ h => Finset.sum_eq_zero fun c _ => by rw [if_neg (Ne.symm h), zero_mul]) (fun h => absurd (Finset.mem_univ b) h)]
  simp

theorem pick_at (v : FVec Ideal S76x1 .f32) (f : Fin 4 → Fin 19 → ℝ) (hv : ∀ r, v (ix2 r 0) = ((f (rb r) (rc r) : ℝ) : EReal)) (b : Fin 4) :
    matmul dot_S4x76_S76x1_S4x1_1_0_0_1_n_n none selF v (constant S4x1 .f32 0x00000000#32) (ix2 b 0) = ((∑ c, f b c : ℝ) : EReal) := by
  refine (Ideal.matmul_plain_apply (M := 4) (K := 76) (N := 1) none _ _ _ b 0).trans ?_
  rw [show (constant S4x1 .f32 0x00000000#32 : FVec Ideal S4x1 .f32) (ix2 b 0) = 0 from Ideal.ofBits_zero_f32, zero_add, ← rows_sum, coe_sum]
  refine Finset.sum_congr rfl fun r _ => ?_
  rw [selF_at, hv, EReal.coe_mul]

/-- The images' losses. -/
def perImg (X : Vec Ideal S1216x256 .f32) : FVec Ideal S4x1 .f32 :=
  divf (matmul dot_S4x76_S76x1_S4x1_1_0_0_1_n_n none selF (mulf (k1_pay6 X) (k1_pay7 X)) (constant S4x1 .f32 0x00000000#32))
    (maximumf (matmul dot_S4x76_S76x1_S4x1_1_0_0_1_n_n none selF (k1_pay7 X) (constant S4x1 .f32 0x00000000#32))
      (broadcast S4x1 (Scalar.ofBits .f32 0x3F800000#32)))

include hX in
theorem perImg_at (b : Fin 4) :
    perImg X (ix2 b 0) = (((∑ c, loss H b c * pres H b c) / max (∑ c, pres H b c) 1 : ℝ) : EReal) := by
  show Ideal.div (matmul dot_S4x76_S76x1_S4x1_1_0_0_1_n_n none selF (mulf (k1_pay6 X) (k1_pay7 X)) (constant S4x1 .f32 0x00000000#32) (ix2 b 0))
    (max (matmul dot_S4x76_S76x1_S4x1_1_0_0_1_n_n none selF (k1_pay7 X) (constant S4x1 .f32 0x00000000#32) (ix2 b 0))
      (FloatOps.ofBits .f32 0x3F800000#32 : Ideal .f32)) = _
  rw [pick_at (mulf (k1_pay6 X) (k1_pay7 X)) (fun b c => loss H b c * pres H b c) (fun r => by
      show k1_pay6 X (ix2 r 0) * k1_pay7 X (ix2 r 0) = _
      rw [pay6_at hX, pay7_at hX, EReal.coe_mul]),
    pick_at (k1_pay7 X) (pres H) (pay7_at hX), one_word, max_re, div_re (ne_of_gt (lt_of_lt_of_le one_pos (le_max_right _ _)))]

/-- The rank-three indices of the images. -/
def imgIdx : Fin 4 ≃ S1x4x1.Idx where
  toFun b := ix3 0 b 0
  invFun i := i 1
  left_inv _ := rfl
  right_inv i := by
    funext a
    match a with
    | ⟨0, _⟩ => exact Fin.ext (by have : (i 0).val < 1 := (i 0).isLt; show 0 = (i 0).val; omega)
    | ⟨1, _⟩ => rfl
    | ⟨2, _⟩ => exact Fin.ext (by have : (i 2).val < 1 := (i 2).isLt; show 0 = (i 2).val; omega)

include hX in
theorem total_at (j : S1.Idx) :
    multiReduction .add [1, 2] S1 (shapeCast S1x4x1 (perImg X) shapeCasts_S4x1_S1x4x1) 0x00000000#32 reduces_S1x4x1_S1 (.inl rfl) rfl j
      = ((∑ b, (∑ c, loss H b c * pres H b c) / max (∑ c, pres H b c) 1 : ℝ) : EReal) := by
  refine (Ideal.multiReduction_add_total _ _ _ (fun b => by fin_cases b; rfl) _ _ _).trans ?_
  rw [coe_sum, ← Equiv.sum_comp imgIdx]
  refine Finset.sum_congr rfl fun b _ => ?_
  rw [← perImg_at hX b]
  refine shapeCast_apply _ _ _ _ ?_
  refine (Shape.rowMajor_val_two _).trans ((?_ : _ = _).trans (Shape.rowMajor_val_three _).symm)
  show b.val * 1 + 0 = (0 * 4 + b.val) * 1 + 0
  omega

include hX in
theorem finV_at (j : S1x1.Idx) : Fin.finV X j = ((mean (loss H) (pres H) : ℝ) : EReal) := by
  have h : ∀ y, shapeCast S1x1x1 (multiReduction .add [1, 2] S1 (shapeCast S1x4x1 (perImg X) shapeCasts_S4x1_S1x4x1) 0x00000000#32
      reduces_S1x4x1_S1 (.inl rfl) rfl) shapeCasts_S1_S1x1x1 y
      = ((∑ b, (∑ c, loss H b c * pres H b c) / max (∑ c, pres H b c) 1 : ℝ) : EReal) := fun y => total_at hX _
  show Ideal.div (extractAt ![0, 0, 0] (shapeCast S1x1x1 (multiReduction .add [1, 2] S1 (shapeCast S1x4x1 (perImg X) shapeCasts_S4x1_S1x4x1) 0x00000000#32
      reduces_S1x4x1_S1 (.inl rfl) rfl) shapeCasts_S1_S1x1x1) inpos_S1x1x1_p0_0_0) (FloatOps.ofBits .f32 0x40800000#32 : Ideal .f32) = _
  rw [word_4, mean, ← div_re (by norm_num)]
  exact congrArg (fun x => Ideal.div x _) (h _)

end Cert.Proof.FinVal
-- ==== Proof.KVal.lean ====
/-
  The number the kernel leaves: the mean over images and classes present of the losses, each from the pixels' levels.
-/
module

public import proofs.«01_k».proof.Proof.FinVal
public import proofs.«01_k».proof.Proof.Main

@[expose] public section

noncomputable section

namespace Cert.Proof.Spec

open Cert.KernelIdeal Cert.KernelIdeal.Gen Cert.Proof.Hist Cert.Proof.Bins Cert.Proof.FinVal
open Idealize.ShloMosaic
open Idealize.ShloMosaic.ValueIdx

variable (X : Vec Ideal S4x19x262144 .f32) {B : Vec Ideal S4x262144 .i32} (hB : ∀ y, ((B : IVec S4x262144 32) y).toNat < 19)

/-- The level of pixel `q`'s error of class `c`: of `1 - p` at the pixel's own class, of `p` elsewhere. -/
def lev (b : Fin 4) (c : Fin 19) (q : Fin 262144) : ℕ :=
  if clsI hB b q = c then nf (pxI X b q) c else nb (pxI X b q) c

/-- Whether `c` is the class of pixel `q`. -/
def fg (b : Fin 4) (c : Fin 19) (q : Fin 262144) : ℝ := if clsI hB b q = c then 1 else 0

theorem lev_le (b : Fin 4) (c : Fin 19) (q : Fin 262144) : lev X hB b c q ≤ 255 := by
  unfold lev
  split
  · exact nf_le (pxI_nonneg b q) c
  · exact nb_le (pxI_nonneg b q) c

theorem fg_bit (b : Fin 4) (c : Fin 19) (q : Fin 262144) : fg hB b c q = 0 ∨ fg hB b c q = 1 := by
  unfold fg; split <;> simp

/-- The class's pixels. -/
def gts (b : Fin 4) (c : Fin 19) : ℝ := ∑ q, fg hB b c q

/-- The class's loss: the Jaccard loss of the pixels at each level or above, summed over the levels from one on. -/
def lossS (b : Fin 4) (c : Fin 19) : ℝ :=
  ((∑ j : Fin 256, (1 - (gts hB b c - ∑ q, (if j.val ≤ lev X hB b c q then fg hB b c q else 0))
    / max (gts hB b c + ∑ q, (if j.val ≤ lev X hB b c q then 1 - fg hB b c q else 0)) 1)) - 1) / 255

def presS (b : Fin 4) (c : Fin 19) : ℝ := if 0 < gts hB b c then 1 else 0

/-! ## The kernel's histograms -/

/-- What the tiles leave. -/
def H (b : Fin 4) (t : Fin 8) (k : Fin 38) (i : Fin 256) : ℝ :=
  ∑ q ∈ Finset.range 32768, conI hB X b (256 * k.val + i.val) (t.val * 32768 + q)

theorem holds : Holds (shapeCast S1216x256 (Tile.outB X B) shapeCasts_S32x9728_S1216x256) (H X hB) := by
  intro b t k i
  have hb := b.isLt; have ht := t.isLt; have hk := k.isLt; have hi := i.isLt
  rw [shapeCast_apply _ _ _ (ix2 (⟨b.val * 8 + t.val, by omega⟩ : Fin 32) (⟨256 * k.val + i.val, by omega⟩ : Fin 9728)) (by
    refine (Shape.rowMajor_val_two _).trans ((?_ : _ = _).trans (Shape.rowMajor_val_two _).symm)
    show (b.val * 8 + t.val) * 9728 + (256 * k.val + i.val) = (b.val * 304 + t.val * 38 + k.val) * 256 + i.val
    ring), outB_re hB]
  have e1 : (⟨(b.val * 8 + t.val) / 8, by omega⟩ : Fin 4) = b := Fin.ext (by show (b.val * 8 + t.val) / 8 = b.val; omega)
  have e2 : (b.val * 8 + t.val) % 8 = t.val := by omega
  show ((∑ q ∈ Finset.range 32768, conI hB X ⟨(b.val * 8 + t.val) / 8, _⟩ (256 * k.val + i.val) ((b.val * 8 + t.val) % 8 * 32768 + q) : ℝ) : EReal) = _
  rw [e1, e2]
  rfl

theorem hs_eq (b : Fin 4) (k : Fin 38) (i : Fin 256) :
    hs (H X hB) b k i = ∑ q : Fin 262144, con (pxI X b q) (clsI hB b q) (256 * k.val + i.val) := by
  unfold hs H
  rw [← Finset.sum_range (fun t => ∑ q ∈ Finset.range 32768, conI hB X b (256 * k.val + i.val) (t * 32768 + q)), tiles_sum,
    show 8 * 32768 = 262144 from rfl, Finset.sum_range]
  exact Finset.sum_congr rfl fun q _ => dif_pos q.isLt

/-- Summing a pixel's one bin over the bins from `j` on. -/
theorem bins_sum (p : Prop) [Decidable p] {n : ℕ} (hn : n ≤ 255) (j : ℕ) :
    ∑ i : Fin 256, (if j ≤ i.val then (if p ∧ n = i.val then (1 : ℝ) else 0) else 0) = if j ≤ n then (if p then 1 else 0) else 0 := by
  rw [Finset.sum_eq_single (⟨n, by omega⟩ : Fin 256) (fun i _ hi => by
    rw [if_neg (fun h : p ∧ n = i.val => hi (Fin.ext h.2.symm)), ite_self]) (fun h => absurd (Finset.mem_univ _) h)]
  simp

theorem s1_eq (b : Fin 4) (c : Fin 19) (j : ℕ) :
    s1 (H X hB) b c j = ∑ q, (if j ≤ lev X hB b c q then fg hB b c q else 0) := by
  unfold s1
  simp only [hs_eq]
  have e (i : Fin 256) : (if j ≤ i.val then ∑ q : Fin 262144, con (pxI X b q) (clsI hB b q) (256 * (c.val + 19) + i.val) else 0)
      = ∑ q : Fin 262144, if j ≤ i.val then (if clsI hB b q = c ∧ nf (pxI X b q) c = i.val then (1 : ℝ) else 0) else 0 := by
    split
    · refine Finset.sum_congr rfl fun q _ => ?_
      rw [show 256 * (c.val + 19) + i.val = 4864 + 256 * c.val + i.val by ring, con_fg (pxI_nonneg b q) _ _ i.isLt]
    · exact Finset.sum_const_zero.symm
  rw [Finset.sum_congr rfl fun i _ => e i, Finset.sum_comm]
  refine Finset.sum_congr rfl fun q _ => ?_
  rw [bins_sum _ (nf_le (pxI_nonneg b q) c)]
  unfold lev fg
  split_ifs <;> rfl

theorem s0_eq (b : Fin 4) (c : Fin 19) (j : ℕ) :
    s0 (H X hB) b c j = ∑ q, (if j ≤ lev X hB b c q then 1 - fg hB b c q else 0) := by
  unfold s0
  simp only [hs_eq]
  have e (i : Fin 256) : (if j ≤ i.val then ∑ q : Fin 262144, con (pxI X b q) (clsI hB b q) (256 * c.val + i.val) else 0)
      = ∑ q : Fin 262144, if j ≤ i.val then (if clsI hB b q ≠ c ∧ nb (pxI X b q) c = i.val then (1 : ℝ) else 0) else 0 := by
    split
    · exact Finset.sum_congr rfl fun q _ => con_bg (pxI_nonneg b q) _ _ i.isLt
    · exact Finset.sum_const_zero.symm
  rw [Finset.sum_congr rfl fun i _ => e i, Finset.sum_comm]
  refine Finset.sum_congr rfl fun q _ => ?_
  rw [bins_sum _ (nb_le (pxI_nonneg b q) c)]
  unfold lev fg
  by_cases h : clsI hB b q = c
  · simp [h]
  · simp [h]

theorem s1_zero (b : Fin 4) (c : Fin 19) : s1 (H X hB) b c 0 = gts hB b c := by
  rw [s1_eq]; simp [gts]

theorem loss_eq : loss (H X hB) = lossS X hB := by
  funext b c
  unfold loss lossS
  simp only [s1_zero]
  simp only [s1_eq, s0_eq]

theorem pres_eq : pres (H X hB) = presS hB := by
  funext b c
  unfold pres presS
  rw [s1_zero]

/-- The number the finishing kernel makes of what the tiles leave. -/
theorem fin_at (j : S1x1.Idx) : Fin.finV (shapeCast S1216x256 (Tile.outB X B) shapeCasts_S32x9728_S1216x256) j
    = ((mean (lossS X hB) (presS hB) : ℝ) : EReal) := by
  rw [finV_at (holds X hB), loss_eq, pres_eq]

end Cert.Proof.Spec
-- ==== Proof.RefA.lean ====
/-
  The reference up to the quantised errors, over the reals: the softmax with the maximum taken off is the softmax, and an
  error is its level over 255.
-/
module

public import proofs.«01_k».proof.Proof.KVal
public import proofs.«01_k».proof.Proof.Gen.ReferenceIdeal.Run
public import Idealize.ShloMosaic.Lib.KernelVsHost

@[expose] public section

noncomputable section

namespace Cert.Proof.Ref

open Cert.ReferenceIdeal Cert.ReferenceIdeal.Gen Cert.Proof.Hist Cert.Proof.FinVal Cert.Proof.Bins
open Idealize.ShloMosaic
open Idealize.ShloMosaic.ValueIdx

/-! ## The stages -/

/-- The greatest logit of a pixel. -/
def maxV (A : FVec Ideal S4x19x512x512 .f32) : FVec Ideal S4x512x512 .f32 :=
  maximumf (broadcastInDim S4x512x512 ![] bcast_S_S4x512x512 (constant S_ .f32 0xFF800000#32))
    (Host.reduce FloatOps.maximumf A (constant S_ .f32 0xFF800000#32) reducesTo_S4x19x512x512_S4x512x512_d1 h_S_)

/-- One number a pixel, over the classes. -/
def spread (v : FVec Ideal S4x512x512 .f32) : FVec Ideal S4x19x512x512 .f32 :=
  broadcastInDim S4x19x512x512 ![0, 1, 2, 3] bcast_S4x1x512x512_S4x19x512x512_0_1_2_3
    (broadcastInDim S4x1x512x512 ![0, 2, 3] bcast_S4x512x512_S4x1x512x512_0_2_3 v)

def expV (A : FVec Ideal S4x19x512x512 .f32) : FVec Ideal S4x19x512x512 .f32 := Host.exp (subf A (spread (maxV A)))

def sumV (A : FVec Ideal S4x19x512x512 .f32) : FVec Ideal S4x512x512 .f32 :=
  Host.reduceAdd (expV A) (constant S_ .f32 0x00000000#32) reducesTo_S4x19x512x512_S4x512x512_d1 h_S_

def probV (A : FVec Ideal S4x19x512x512 .f32) : FVec Ideal S4x19x262144 .f32 :=
  shapeCast _ (Host.divf (expV A) (spread (sumV A))) shapeCasts_S4x19x512x512_S4x19x262144

def fgV (T : IVec S4x512x512 32) : FVec Ideal S4x19x262144 .f32 :=
  uitofp .f32 (cmpi .eq
    (broadcastInDim S4x19x262144 ![0, 1, 2] bcast_S4x1x262144_S4x19x262144_0_1_2 (shapeCast _ T shapeCasts_S4x512x512_S4x1x262144))
    (broadcastInDim S4x19x262144 ![0, 1, 2] bcast_S1x19x1_S4x19x262144_0_1_2
      (broadcastInDim S1x19x1 ![1] bcast_S19_S1x19x1_1 (iotaInDim S19 32 0))))

def one255 : FVec Ideal S4x19x262144 .f32 := broadcastInDim S4x19x262144 ![] bcast_S_S4x19x262144 (constant S_ .f32 0x437F0000#32)
def half : FVec Ideal S4x19x262144 .f32 := broadcastInDim S4x19x262144 ![] bcast_S_S4x19x262144 (constant S_ .f32 0x3F000000#32)
def one : FVec Ideal S4x19x262144 .f32 := broadcastInDim S4x19x262144 ![] bcast_S_S4x19x262144 (constant S_ .f32 0x3F800000#32)

/-- The quantised errors, negated. -/
def negV (A : FVec Ideal S4x19x512x512 .f32) (T : IVec S4x512x512 32) : FVec Ideal S4x19x262144 .f32 :=
  Host.negf (Host.divf (Host.floor (addf (mulf (Host.absf (subf (fgV T) (probV A))) one255) half)) one255)

/-! ## Softmax -/

theorem fold_max_real {ι : Type} [DecidableEq ι] {b : EReal} (hb : b ≠ ⊤) (f : ι → EReal) (hf : ∀ k, ∃ r : ℝ, f k = (r : EReal)) (s : Finset ι)
    (hs : s.Nonempty) : ∃ r : ℝ, s.fold max b f = (r : EReal) := by
  induction hs using Finset.Nonempty.cons_induction with
  | singleton a =>
      obtain ⟨r, hr⟩ := hf a
      rw [Finset.fold_singleton, hr]
      induction b with
      | bot => exact ⟨r, max_bot_right _⟩
      | top => exact absurd rfl hb
      | coe x => exact ⟨max r x, max_re r x⟩
  | cons a s ha hs ih =>
      obtain ⟨r, hr⟩ := hf a
      obtain ⟨x, hx⟩ := ih
      rw [Finset.fold_cons, hr, hx]
      exact ⟨max r x, max_re r x⟩

theorem bot_word : (FloatOps.ofBits .f32 0xFF800000#32 : Ideal .f32) = (⊥ : EReal) := by
  simp [Ideal.ofBits, Ideal.ieee]

variable {A : FVec Ideal S4x19x512x512 .f32} (hA : ∀ i, ∃ r : ℝ, A i = (r : EReal))

theorem red1 : S4x19x512x512.Reduces [1] S4x512x512 := by decide

/-- The greatest logit as the host reduces it. -/
def topV (A : FVec Ideal S4x19x512x512 .f32) : FVec Ideal S4x512x512 .f32 :=
  Host.reduce FloatOps.maximumf A (constant S_ .f32 0xFF800000#32) reducesTo_S4x19x512x512_S4x512x512_d1 h_S_

theorem topV_eq (A : FVec Ideal S4x19x512x512 .f32) (y : S4x512x512.Idx) :
    topV A y = Finset.univ.fold max (FloatOps.ofBits .f32 0xFF800000#32 : Ideal .f32) (A ∘ red1.lift y) := by
  unfold topV
  refine (congrFun (hostReduce_maximumf_eq_multiReduction A 0xFF800000#32 reducesTo_S4x19x512x512_S4x512x512_d1 h_S_ red1 (.inl rfl) rfl) y).trans ?_
  exact Ideal.multiReduction_maximumf_single A 0xFF800000#32 red1 (.inl rfl) rfl y

theorem max_at {s : Shape} (u v : FVec Ideal s .f32) (y : s.Idx) : maximumf u v y = max (u y) (v y) := rfl

theorem const_at (s : Shape) (h : S_.BroadcastsInDim s ![]) (w : BitVec 32) (y : s.Idx) :
    broadcastInDim s ![] h (constant S_ .f32 w) y = (FloatOps.ofBits .f32 w : Ideal .f32) := rfl

include hA in
theorem maxV_real (y : S4x512x512.Idx) : ∃ r : ℝ, maxV A y = (r : EReal) := by
  have h : ∃ r : ℝ, topV A y = (r : EReal) := by
    rw [topV_eq]
    exact fold_max_real (by rw [bot_word]; exact bot_ne_top) _ (fun k => hA _) _ ⟨(0 : Fin 19), Finset.mem_univ _⟩
  obtain ⟨r, hr⟩ := h
  refine ⟨r, ?_⟩
  unfold maxV
  rw [max_at, const_at, bot_word]
  refine Eq.trans ?_ hr
  exact max_bot_left _

theorem spread_at (v : FVec Ideal S4x512x512 .f32) (b : Fin 4) (c : Fin 19) (h w : Fin 512) : spread v (ix4 b c h w) = v (ix3 b h w) := by
  unfold spread
  rw [broadcastInDim_apply _ _ _ _ (ix4 b (0 : Fin 1) h w) (fun a => by
      match a with
      | ⟨0, _⟩ => rfl
      | ⟨1, _⟩ => rfl
      | ⟨2, _⟩ => rfl
      | ⟨3, _⟩ => rfl),
    broadcastInDim_apply _ _ _ _ (ix3 b h w) (fun a => by
      match a with
      | ⟨0, _⟩ => rfl
      | ⟨1, _⟩ => rfl
      | ⟨2, _⟩ => rfl)]

/-- Taking any one number off the logits leaves the softmax. -/
theorem softmax_shift (x : Fin 19 → ℝ) (M : ℝ) (c : Fin 19) :
    Real.exp (x c - M) / ∑ k, Real.exp (x k - M) = Real.exp (x c) / ∑ k, Real.exp (x k) := by
  simp only [Real.exp_sub]
  rw [← Finset.sum_div, div_div_div_cancel_right₀ (Real.exp_ne_zero M)]

theorem sum_exp_pos (x : Fin 19 → ℝ) : 0 < ∑ k, Real.exp (x k) :=
  Finset.sum_pos (fun k _ => Real.exp_pos _) ⟨0, Finset.mem_univ _⟩

/-- The real logits of a pixel. -/
theorem prob_real (b : Fin 4) (h w : Fin 512) (x : Fin 19 → ℝ) (hx : ∀ c, A (ix4 b c h w) = ((x c : ℝ) : EReal)) (hA : ∀ i, ∃ r : ℝ, A i = (r : EReal))
    (c : Fin 19) : Host.divf (expV A) (spread (sumV A)) (ix4 b c h w) = ((Real.exp (x c) / ∑ k, Real.exp (x k) : ℝ) : EReal) := by
  obtain ⟨M, hM⟩ := maxV_real hA (ix3 b h w)
  have he (k : Fin 19) : expV A (ix4 b k h w) = ((Real.exp (x k - M) : ℝ) : EReal) := by
    show Ideal.exp (A (ix4 b k h w) - spread (maxV A) (ix4 b k h w)) = _
    rw [spread_at, hM, hx, ← EReal.coe_sub, Ideal.exp_coe]
  have hs : sumV A (ix3 b h w) = ((∑ k, Real.exp (x k - M) : ℝ) : EReal) := by
    unfold sumV
    show Ideal.hostReduceAdd _ (expV A) (FloatOps.ofBits .f32 0x00000000#32 : Ideal .f32) (ix3 b h w) = _
    rw [Ideal.hostReduceAdd_single _ red1, zero_word, EReal.coe_zero, zero_add, coe_sum]
    refine Finset.sum_congr rfl fun (k : Fin 19) _ => Eq.trans (congrArg (expV A) (funext fun a => ?_)) (he k)
    match a with
    | ⟨0, _⟩ => rfl
    | ⟨1, _⟩ => rfl
    | ⟨2, _⟩ => rfl
    | ⟨3, _⟩ => rfl
  show Ideal.div (expV A (ix4 b c h w)) (spread (sumV A) (ix4 b c h w)) = _
  rw [spread_at, hs, he, div_re (sum_exp_pos fun k => x k - M).ne', softmax_shift]

end Cert.Proof.Ref
-- ==== Proof.RefErr.lean ====
/-
  The reference's errors at a pixel: the level of the pixel over 255.
-/
module

public import proofs.«01_k».proof.Proof.RefA

@[expose] public section

noncomputable section

namespace Cert.Proof.Ref

open Cert.ReferenceIdeal Cert.ReferenceIdeal.Gen Cert.Proof.Hist Cert.Proof.FinVal Cert.Proof.Bins
open Idealize.ShloMosaic
open Idealize.ShloMosaic.ValueIdx

/-! ## The elementwise operations at an index -/

theorem sub_at {s : Shape} (u v : FVec Ideal s .f32) (y : s.Idx) : subf u v y = (u y - v y : EReal) := rfl
theorem add_at {s : Shape} (u v : FVec Ideal s .f32) (y : s.Idx) : addf u v y = (u y + v y : EReal) := rfl
theorem mul_at {s : Shape} (u v : FVec Ideal s .f32) (y : s.Idx) : mulf u v y = (u y * v y : EReal) := rfl
theorem div_at {s : Shape} (u v : FVec Ideal s .f32) (y : s.Idx) : Host.divf u v y = Ideal.div (u y) (v y) := rfl
theorem abs_at {s : Shape} (u : FVec Ideal s .f32) (y : s.Idx) : Host.absf u y = (max (u y) (-(u y)) : EReal) := rfl
theorem neg_at {s : Shape} (u : FVec Ideal s .f32) (y : s.Idx) : Host.negf u y = (-(u y) : EReal) := rfl
theorem floor_at {s : Shape} (u : FVec Ideal s .f32) (y : s.Idx) : Host.floor u y = Ideal.liftRound Int.floor (u y) := rfl
theorem uitofp_at {s : Shape} (u : IVec s 1) (y : s.Idx) : uitofp .f32 u y = (FloatOps.uitofp .f32 (u y) : Ideal .f32) := rfl

theorem ubit_re (p : Prop) [Decidable p] :
    (FloatOps.uitofp .f32 (BitVec.ofBool (decide p)) : Ideal .f32) = (((if p then 1 else 0 : ℝ)) : EReal) := by
  by_cases h : p
  · rw [if_pos h, decide_eq_true h]
    show (((BitVec.ofBool true).toNat : ℝ) : EReal) = _
    simp
  · rw [if_neg h, decide_eq_false h]
    show (((BitVec.ofBool false).toNat : ℝ) : EReal) = _
    simp

theorem neg_re (a : ℝ) : -(a : EReal) = ((-a : ℝ) : EReal) := (EReal.coe_neg a).symm

/-! ## The pixels of the flattened arrays -/

variable {A : FVec Ideal S4x19x512x512 .f32} {T : IVec S4x512x512 32}

/-- The logits as the kernel flattens them. -/
def XR (A : FVec Ideal S4x19x512x512 .f32) : Vec Ideal Cert.KernelIdeal.S4x19x262144 .f32 :=
  shapeCast S4x19x262144 A shapeCasts_S4x19x512x512_S4x19x262144

def row (q : Fin 262144) : Fin 512 := ⟨q.val / 512, by have := q.isLt; omega⟩
def col (q : Fin 262144) : Fin 512 := ⟨q.val % 512, by omega⟩

theorem flat_at (V : FVec Ideal S4x19x512x512 .f32) (b : Fin 4) (c : Fin 19) (q : Fin 262144) :
    shapeCast S4x19x262144 V shapeCasts_S4x19x512x512_S4x19x262144 (ix3 b c q) = V (ix4 b c (row q) (col q)) :=
  shapeCast_apply _ _ _ _ (by
    refine (Shape.rowMajor_val_four _).trans ((?_ : _ = _).trans (Shape.rowMajor_val_three _).symm)
    show ((b.val * 19 + c.val) * 512 + q.val / 512) * 512 + q.val % 512 = (b.val * 19 + c.val) * 262144 + q.val
    omega)

variable (hA : ∀ i, ∃ r : ℝ, A i = (r : EReal))
  {B : Vec Ideal Cert.KernelIdeal.S4x262144 .i32} (hB : ∀ y, ((B : IVec Cert.KernelIdeal.S4x262144 32) y).toNat < 19)
  (hT : ∀ (b : Fin 4) (q : Fin 262144), (B : IVec Cert.KernelIdeal.S4x262144 32) (ix2 b q) = T (ix3 b (row q) (col q)))

include hA in
theorem prob_at (b : Fin 4) (c : Fin 19) (q : Fin 262144) : probV A (ix3 b c q) = ((qr (pxI (XR A) b q) c / 255 : ℝ) : EReal) := by
  choose x hx using fun k => hA (ix4 b k (row q) (col q))
  unfold probV
  rw [flat_at, prob_real b _ _ x hx hA]
  congr 1
  have hp (k : Fin 19) : pxI (XR A) b q k = ((Real.exp (x k) : ℝ) : EReal) := by
    unfold pxI XR
    rw [flat_at, hx, Ideal.exp_coe]
  have e : qv (pxI (XR A) b q) c = ((Real.exp (x c) * (255 / ∑ k, Real.exp (x k)) : ℝ) : EReal) := by
    unfold qv
    simp only [hp]
    rw [← coe_sum, div_re (sum_exp_pos x).ne', ← EReal.coe_mul]
  rw [qr, e, EReal.toReal_coe]
  ring

include hT in
theorem fg_at (b : Fin 4) (c : Fin 19) (q : Fin 262144) : fgV T (ix3 b c q) = ((Spec.fg hB b c q : ℝ) : EReal) := by
  unfold fgV
  rw [uitofp_at, WordCmp.cmpi_at,
    broadcastInDim_apply _ _ _ _ (ix3 b (0 : Fin 1) q) (fun a => by
      match a with
      | ⟨0, _⟩ => rfl
      | ⟨1, _⟩ => rfl
      | ⟨2, _⟩ => rfl),
    broadcastInDim_apply _ _ _ _ (ix3 (0 : Fin 1) c (0 : Fin 1)) (fun a => by
      match a with
      | ⟨0, _⟩ => rfl
      | ⟨1, _⟩ => rfl
      | ⟨2, _⟩ => rfl),
    broadcastInDim_apply _ _ _ _ (ix1 c) (fun a => by
      match a with
      | ⟨0, _⟩ => rfl),
    WordCmp.iotaInDim_at,
    shapeCast_apply _ _ _ (ix3 b (row q) (col q)) (by
      refine (Shape.rowMajor_val_three _).trans ((?_ : _ = _).trans (Shape.rowMajor_val_three _).symm)
      show (b.val * 512 + q.val / 512) * 512 + q.val % 512 = (b.val * 1 + 0) * 262144 + q.val
      omega),
    ← hT, WordCmp.cmpi_eq_eq_toNat, ubit_re]
  have e : ((B : IVec Cert.KernelIdeal.S4x262144 32) (ix2 b q)).toNat = (BitVec.ofNat 32 c.val).toNat ↔ clsI hB b q = c := by
    rw [BitVec.toNat_ofNat, Nat.mod_eq_of_lt (show c.val < 2 ^ 32 by have := c.isLt; omega), Fin.ext_iff]
    exact Iff.rfl
  unfold Spec.fg
  exact congrArg _ (if_congr e rfl rfl)

theorem floor_re {x : ℝ} (hx : 0 ≤ x) : Ideal.liftRound Int.floor (x : EReal) = (((⌊x⌋₊ : ℕ) : ℝ) : EReal) := by
  rw [Ideal.liftRound_coe, ← natCast_floor_eq_intCast_floor hx]

include hA hT in
theorem neg_level (b : Fin 4) (c : Fin 19) (q : Fin 262144) :
    negV A T (ix3 b c q) = ((-((Spec.lev (XR A) hB b c q : ℝ) / 255) : ℝ) : EReal) := by
  have h0 := qr_nonneg (pxI_nonneg (X := XR A) b q) c
  have h1 := qr_le (pxI_nonneg (X := XR A) b q) c
  unfold negV one255 half
  rw [neg_at, div_at, floor_at, add_at, mul_at, abs_at, sub_at, const_at, const_at, Bins.word_255, Bins.word_half, prob_at hA, fg_at hB hT,
    ← EReal.coe_sub, neg_re, max_re, ← EReal.coe_mul, ← EReal.coe_add, ← neg_re]
  generalize hr : qr (pxI (XR A) b q) c = r at *
  have key : max (Spec.fg hB b c q - r / 255) (-(Spec.fg hB b c q - r / 255)) * 255 + 1 / 2
      = if clsI hB b q = c then 511 / 2 - r else r + 1 / 2 := by
    unfold Spec.fg
    split
    · rw [max_eq_left (by linarith)]; ring
    · rw [max_eq_right (by linarith)]; ring
  have kl : Spec.lev (XR A) hB b c q = ⌊(if clsI hB b q = c then 511 / 2 - r else r + 1 / 2 : ℝ)⌋₊ := by
    unfold Spec.lev nf nb
    rw [hr]
    split <;> rfl
  rw [key, floor_re (by split <;> linarith), ← kl, div_re (by norm_num)]

end Cert.Proof.Ref
-- ==== Proof.RefOps.lean ====
/-
  The host's running sum, sort, and difference along the last axis of a rank-3 array, each read at an index.
-/
module

public import proofs.«01_k».proof.Proof.RefErr
public import Idealize.ShloMosaic.Lib.SortFacts

@[expose] public section

noncomputable section

namespace Cert.Proof.Ref

open Cert.Proof.Hist Cert.Proof.FinVal
open Idealize.ShloMosaic
open Idealize.ShloMosaic.ValueIdx

/-! ## The running sum -/

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window positions of a running sum along the last axis. -/
def winEquiv (M : ℕ) : (⟨3, ![1, 1, M + 1]⟩ : Shape).Idx ≃ Fin (M + 1) where
  toFun w := w (2 : Fin 3)
  invFun n := ix3 (0 : Fin 1) (0 : Fin 1) n
  left_inv w := funext fun a => match a with
    | ⟨0, _⟩ => Subsingleton.elim (α := Fin 1) _ _
    | ⟨1, _⟩ => Subsingleton.elim (α := Fin 1) _ _
    | ⟨2, _⟩ => rfl
  right_inv _ := rfl

theorem window_sum (g : ℕ → ℝ) (M k : ℕ) (hk : k ≤ M) :
    ∑ n : Fin (M + 1), (if M ≤ k + n.val then g (k + n.val - M) else 0) = ∑ i ∈ Finset.range (k + 1), g i := by
  rw [← Finset.sum_range (fun n => if M ≤ k + n then g (k + n - M) else 0), show M + 1 = (M - k) + (k + 1) by omega, Finset.sum_range_add,
    Finset.sum_eq_zero (fun n hn => if_neg (by have := Finset.mem_range.1 hn; omega)), zero_add]
  refine Finset.sum_congr rfl fun i _ => ?_
  rw [if_pos (by omega)]
  congr 1; omega

theorem cumsum_at {A C M : ℕ} (x : FVec Ideal ⟨3, ![A, C, M + 1]⟩ .f32) (v : FVec Ideal ⟨0, ![]⟩ .f32)
    (h : (⟨3, ![A, C, M + 1]⟩ : Shape).ReduceWindows ![1, 1, M + 1] ![1, 1, 1] ![0, 0, M] ![0, 0, 0] ⟨3, ![A, C, M + 1]⟩)
    (hu : 0 < (⟨0, ![]⟩ : Shape).numel) (hv : ∀ y, v y = (0 : EReal)) (b : Fin A) (c : Fin C) (g : ℕ → ℝ)
    (hg : ∀ i : Fin (M + 1), x (ix3 b c i) = ((g i.val : ℝ) : EReal)) (k : Fin (M + 1)) :
    Host.reduceWindowAdd ![1, 1, M + 1] ![1, 1, 1] ![0, 0, M] ![0, 0, 0] x v h hu (ix3 b c k)
      = ((∑ i ∈ Finset.range (k.val + 1), g i : ℝ) : EReal) := by
  have hk := k.isLt
  rw [← window_sum g M k.val (by omega), coe_sum]
  refine (foldl_add _ _ _).trans ?_
  rw [← Fin.sum_univ_def, hv, zero_add]
  refine Fintype.sum_equiv ((⟨3, ![1, 1, M + 1]⟩ : Shape).rowMajor.symm.trans (winEquiv M)) _ _ fun n => ?_
  obtain ⟨r, hr⟩ : ∃ r : Fin (M + 1), (⟨3, ![1, 1, M + 1]⟩ : Shape).rowMajor.symm n = (winEquiv M).symm r :=
    ⟨winEquiv M ((⟨3, ![1, 1, M + 1]⟩ : Shape).rowMajor.symm n), (Equiv.symm_apply_apply _ _).symm⟩
  have e0 : ((⟨3, ![1, 1, M + 1]⟩ : Shape).rowMajor.symm n (0 : Fin 3)).val = 0 := by rw [hr]; rfl
  have e1 : ((⟨3, ![1, 1, M + 1]⟩ : Shape).rowMajor.symm n (1 : Fin 3)).val = 0 := by rw [hr]; rfl
  have e2 : ((⟨3, ![1, 1, M + 1]⟩ : Shape).rowMajor.symm n (2 : Fin 3)).val = r.val := by rw [hr]; rfl
  have er : winEquiv M ((⟨3, ![1, 1, M + 1]⟩ : Shape).rowMajor.symm n) = r := by rw [hr, Equiv.apply_symm_apply]
  rw [Equiv.trans_apply, er]
  have hn := r.isLt
  by_cases hc : M ≤ k.val + r.val
  · rw [if_pos hc, ← hg ⟨k.val + r.val - M, by omega⟩]
    refine (dif_pos ?_).trans (congrArg x (funext fun a => ?_))
    · intro a
      match a with
      | ⟨0, _⟩ =>
          refine ⟨Nat.zero_le _, ?_⟩
          show b.val * 1 + ((⟨3, ![1, 1, M + 1]⟩ : Shape).rowMajor.symm n (0 : Fin 3)).val - 0 < A
          have := b.isLt; omega
      | ⟨1, _⟩ =>
          refine ⟨Nat.zero_le _, ?_⟩
          show c.val * 1 + ((⟨3, ![1, 1, M + 1]⟩ : Shape).rowMajor.symm n (1 : Fin 3)).val - 0 < C
          have := c.isLt; omega
      | ⟨2, _⟩ =>
          constructor
          · show M ≤ k.val * 1 + ((⟨3, ![1, 1, M + 1]⟩ : Shape).rowMajor.symm n (2 : Fin 3)).val
            omega
          · show k.val * 1 + ((⟨3, ![1, 1, M + 1]⟩ : Shape).rowMajor.symm n (2 : Fin 3)).val - M < M + 1
            omega
    · match a with
      | ⟨0, _⟩ =>
          refine Fin.ext ?_
          show b.val * 1 + ((⟨3, ![1, 1, M + 1]⟩ : Shape).rowMajor.symm n (0 : Fin 3)).val - 0 = b.val
          omega
      | ⟨1, _⟩ =>
          refine Fin.ext ?_
          show c.val * 1 + ((⟨3, ![1, 1, M + 1]⟩ : Shape).rowMajor.symm n (1 : Fin 3)).val - 0 = c.val
          omega
      | ⟨2, _⟩ =>
          refine Fin.ext ?_
          show k.val * 1 + ((⟨3, ![1, 1, M + 1]⟩ : Shape).rowMajor.symm n (2 : Fin 3)).val - M = k.val + r.val - M
          omega
  · rw [if_neg hc, EReal.coe_zero]
    refine dif_neg fun hin => hc ?_
    have e : M ≤ k.val * 1 + ((⟨3, ![1, 1, M + 1]⟩ : Shape).rowMajor.symm n (2 : Fin 3)).val := (hin (2 : Fin 3)).1
    omega

/-! ## The sort -/

/-- The positions of a fiber in the order of the sort. -/
def order {A C N : ℕ} (cmp : EReal × EReal → EReal × EReal → BitVec 1) (x y : FVec Ideal ⟨3, ![A, C, N]⟩ .f32) (b : Fin A) (c : Fin C) : Fin N → Fin N :=
  sortedFrom fun k k' => cmp (x (ix3 b c k), y (ix3 b c k)) (x (ix3 b c k'), y (ix3 b c k')) == 1#1

theorem along_ix3 {A C N : ℕ} (b : Fin A) (c : Fin C) (k0 k : Fin N) :
    Shape.Idx.along (s := ⟨3, ![A, C, N]⟩) (ix3 b c k0) (2 : Fin 3) k = ix3 b c k :=
  funext fun a => match a with
    | ⟨0, _⟩ => rfl
    | ⟨1, _⟩ => rfl
    | ⟨2, _⟩ => rfl

theorem sort_fst {A C N : ℕ} (cmp : EReal × EReal → EReal × EReal → BitVec 1) (x y : FVec Ideal ⟨3, ![A, C, N]⟩ .f32) (b : Fin A) (c : Fin C)
    (k : Fin N) : (Host.sort2 ⟨3, ![A, C, N]⟩ 2 cmp x y).1 (ix3 b c k) = x (ix3 b c (order cmp x y b c k)) := by
  unfold Host.sort2
  rw [dif_pos (show 2 < 3 by decide)]
  refine (congrArg x (along_ix3 b c k _)).trans ?_
  unfold order
  exact congrArg (fun f => x (ix3 b c (sortedFrom f k))) (funext fun k1 => funext fun k2 =>
    congrArg₂ (fun i j : (⟨3, ![A, C, N]⟩ : Shape).Idx => cmp (x i, y i) (x j, y j) == 1#1) (along_ix3 b c k k1) (along_ix3 b c k k2))

theorem sort_snd {A C N : ℕ} (cmp : EReal × EReal → EReal × EReal → BitVec 1) (x y : FVec Ideal ⟨3, ![A, C, N]⟩ .f32) (b : Fin A) (c : Fin C)
    (k : Fin N) : (Host.sort2 ⟨3, ![A, C, N]⟩ 2 cmp x y).2 (ix3 b c k) = y (ix3 b c (order cmp x y b c k)) := by
  unfold Host.sort2
  rw [dif_pos (show 2 < 3 by decide)]
  refine (congrArg y (along_ix3 b c k _)).trans ?_
  unfold order
  exact congrArg (fun f => y (ix3 b c (sortedFrom f k))) (funext fun k1 => funext fun k2 =>
    congrArg₂ (fun i j : (⟨3, ![A, C, N]⟩ : Shape).Idx => cmp (x i, y i) (x j, y j) == 1#1) (along_ix3 b c k k1) (along_ix3 b c k k2))

theorem order_bijective {A C N : ℕ} (cmp : EReal × EReal → EReal × EReal → BitVec 1) (x y : FVec Ideal ⟨3, ![A, C, N]⟩ .f32) (b : Fin A) (c : Fin C) :
    Function.Bijective (order cmp x y b c) := ⟨sortedFrom_injective _, sortedFrom_surjective _⟩

/-- A fiber of reals sorted by an order that compares them comes out ascending. -/
theorem order_mono {A C N : ℕ} (cmp : EReal × EReal → EReal × EReal → BitVec 1) (x y : FVec Ideal ⟨3, ![A, C, N]⟩ .f32) (b : Fin A) (c : Fin C)
    (hc : ∀ (r s : ℝ) (u v : EReal), cmp ((r : EReal), u) ((s : EReal), v) = BitVec.ofBool (decide (r < s))) (f : Fin N → ℝ)
    (hf : ∀ q, x (ix3 b c q) = ((f q : ℝ) : EReal)) {i j : Fin N} (hij : i ≤ j) : f (order cmp x y b c i) ≤ f (order cmp x y b c j) := by
  have hb (k k' : Fin N) : (cmp (x (ix3 b c k), y (ix3 b c k)) (x (ix3 b c k'), y (ix3 b c k')) == 1#1) = decide (f k < f k') := by
    rw [hf, hf, hc]
    by_cases hl : f k < f k'
    · rw [decide_eq_true hl]; rfl
    · rw [decide_eq_false hl]; rfl
  rcases eq_or_lt_of_le hij with rfl | hij
  · exact le_rfl
  have key := sortedFrom_noInversion
    (fun k k' => cmp (x (ix3 b c k), y (ix3 b c k)) (x (ix3 b c k'), y (ix3 b c k')) == 1#1)
    (fun k k' => cmp (x (ix3 b c k), y (ix3 b c k)) (x (ix3 b c k'), y (ix3 b c k')) == 1#1)
    (fun p q hp => by
      rw [hb] at hp ⊢
      exact decide_eq_false (not_lt.2 (of_decide_eq_true hp).le))
    (fun _ _ hp => hp)
    (fun p q r h1 h2 => by
      rw [hb] at h1 h2 ⊢
      exact decide_eq_false (not_lt.2 ((not_lt.1 (of_decide_eq_false h2)).trans (not_lt.1 (of_decide_eq_false h1))))) i j hij
  rw [hb] at key
  exact not_lt.1 (of_decide_eq_false key)

/-- The order the reference sorts by, on reals. -/
theorem comparator_re (r s : ℝ) (u v : EReal) :
    Cert.ReferenceIdeal.comparator_f32_f32_d2 (F := Ideal) ((r : EReal), u) ((s : EReal), v) = BitVec.ofBool (decide (r < s)) := by
  have hsel (x : ℝ) : Scalar.select (FloatOps.cmpf (F := Ideal) (φ := .f32) .une (x : EReal) (x : EReal)) (FloatOps.ofBits .f32 0x7FC00000#32 : Ideal .f32)
      (Scalar.select (FloatOps.cmpf (F := Ideal) (φ := .f32) .oeq (x : EReal) (FloatOps.ofBits .f32 0x00000000#32 : Ideal .f32))
        (FloatOps.ofBits .f32 0x00000000#32 : Ideal .f32) ((x : EReal) : Ideal .f32)) = ((x : EReal) : Ideal .f32) := by
    have e1 : FloatOps.cmpf (F := Ideal) (φ := .f32) .une (x : EReal) (x : EReal) = 0#1 := by
      show BitVec.ofBool (decide ((x : EReal) ≠ (x : EReal))) = _
      simp
    rw [e1, zero_word]
    by_cases hx : x = 0
    · subst hx
      have e2 : FloatOps.cmpf (F := Ideal) (φ := .f32) .oeq ((0 : ℝ) : EReal) ((0 : ℝ) : EReal) = 1#1 := by
        show BitVec.ofBool (decide (((0 : ℝ) : EReal) = ((0 : ℝ) : EReal))) = _
        simp
      rw [e2]; rfl
    · have e2 : FloatOps.cmpf (F := Ideal) (φ := .f32) .oeq (x : EReal) ((0 : ℝ) : EReal) = 0#1 := by
        show BitVec.ofBool (decide ((x : EReal) = ((0 : ℝ) : EReal))) = _
        rw [decide_eq_false (fun h => hx (EReal.coe_eq_coe_iff.1 h))]; rfl
      rw [e2]; rfl
  unfold Cert.ReferenceIdeal.comparator_f32_f32_d2
  show FloatOps.cmpfTotal (F := Ideal) (φ := .f32) .lt (Scalar.select _ _ (Scalar.select _ _ _)) (Scalar.select _ _ (Scalar.select _ _ _)) = _
  rw [hsel r, hsel s]
  show BitVec.ofBool (decide ((r : EReal) < (s : EReal))) = _
  congr 1
  exact decide_eq_decide.2 EReal.coe_lt_coe_iff

end Cert.Proof.Ref
-- ==== Proof.Lovasz.lean ====
/-
  The Lovász extension of the Jaccard loss at quantised errors, in real numbers: summed over the pixels in descending
  order of error it is the sum, over the levels of the quantiser, of the Jaccard loss of the pixels at that level or above.
-/
module

public import proofs.«01_k».proof.Proof.Hist

@[expose] public section

noncomputable section

namespace Cert.Proof.Lovasz

open Finset

/-- A descending sequence is at least `j` exactly on a prefix. -/
theorem prefix_of (ls : ℕ → ℕ) (j N : ℕ) (h : ∀ a b, a ≤ b → b < N → ls b ≤ ls a) :
    ∃ K, K ≤ N ∧ ∀ k, k < N → (j ≤ ls k ↔ k < K) := by
  induction N with
  | zero => exact ⟨0, le_rfl, fun k hk => absurd hk (Nat.not_lt_zero k)⟩
  | succ n ih =>
      by_cases hj : j ≤ ls n
      · exact ⟨n + 1, le_rfl, fun k hk => ⟨fun _ => hk, fun _ => hj.trans (h k n (Nat.lt_succ_iff.1 hk) (Nat.lt_succ_self n))⟩⟩
      · obtain ⟨K, hK, hk⟩ := ih fun a b hab hb => h a b hab (hb.trans (Nat.lt_succ_self n))
        refine ⟨K, hK.trans (Nat.le_succ n), fun k hkn => ?_⟩
        rcases Nat.lt_succ_iff_lt_or_eq.1 hkn with hlt | rfl
        · exact hk k hlt
        · exact ⟨fun h' => absurd h' hj, fun h' => absurd (hK) (by omega)⟩

/-- A sum over a prefix as a masked sum over all. -/
theorem sum_prefix (f : ℕ → ℝ) {ls : ℕ → ℕ} {j N K : ℕ} (hK : K ≤ N) (h : ∀ k, k < N → (j ≤ ls k ↔ k < K)) :
    ∑ k ∈ range N, (if j ≤ ls k then f k else 0) = ∑ k ∈ range K, f k := by
  rw [sum_congr rfl fun k hk => if_congr (h k (mem_range.1 hk)) rfl rfl, ← sum_filter]
  refine sum_congr (Finset.ext fun k => ?_) fun _ _ => rfl
  simp only [mem_filter, mem_range]
  omega

/-- A level up to 255 counts the thresholds from one on that it reaches. -/
theorem level_sum (n : ℕ) (hn : n ≤ 255) : (n : ℝ) = ∑ j ∈ range 255, if j + 1 ≤ n then (1 : ℝ) else 0 := by
  rw [← sum_filter, sum_const, nsmul_eq_mul, mul_one]
  congr 1
  rw [show (range 255).filter (fun j => j + 1 ≤ n) = range n from
    Finset.ext fun k => by simp only [mem_filter, mem_range]; omega, card_range]

/-- The Jaccard loss after the first `n` pixels. -/
def jac (G : ℝ) (fs : ℕ → ℝ) (n : ℕ) : ℝ := 1 - (G - ∑ i ∈ range n, fs i) / (G + ∑ i ∈ range n, (1 - fs i))

theorem jac_zero {G : ℝ} (hG : 1 ≤ G) (fs : ℕ → ℝ) : jac G fs 0 = 0 := by
  unfold jac
  simp only [range_zero, sum_empty, sub_zero, add_zero]
  rw [div_self (by linarith), sub_self]

theorem loss_levels (N : ℕ) (fs : ℕ → ℝ) (ls : ℕ → ℕ) (hd : ∀ a b, a ≤ b → b < N → ls b ≤ ls a) (hle : ∀ k, k < N → ls k ≤ 255)
    (hfs : ∀ k, fs k = 0 ∨ fs k = 1) (G : ℝ) (hG : G = ∑ k ∈ range N, fs k) (hG1 : 1 ≤ G) :
    ∑ k ∈ range N, ((ls k : ℝ) / 255) * (jac G fs (k + 1) - jac G fs k)
      = ((∑ j ∈ range 256, (1 - (G - ∑ k ∈ range N, (if j ≤ ls k then fs k else 0))
          / max (G + ∑ k ∈ range N, (if j ≤ ls k then 1 - fs k else 0)) 1)) - 1) / 255 := by
  have hlev (j : ℕ) : 1 - (G - ∑ k ∈ range N, (if j ≤ ls k then fs k else 0)) / max (G + ∑ k ∈ range N, (if j ≤ ls k then 1 - fs k else 0)) 1
      = ∑ k ∈ range N, (if j ≤ ls k then jac G fs (k + 1) - jac G fs k else 0) := by
    obtain ⟨K, hK, hk⟩ := prefix_of ls j N hd
    rw [sum_prefix _ hK hk, sum_prefix _ hK hk, sum_prefix _ hK hk, sum_range_sub, jac_zero hG1, sub_zero, max_eq_left]
    · rfl
    · have : 0 ≤ ∑ k ∈ range K, (1 - fs k) := sum_nonneg fun k _ => by rcases hfs k with h | h <;> rw [h] <;> norm_num
      linarith
  have h0 : 1 - (G - ∑ k ∈ range N, (if 0 ≤ ls k then fs k else 0)) / max (G + ∑ k ∈ range N, (if 0 ≤ ls k then 1 - fs k else 0)) 1 = 1 := by
    simp only [Nat.zero_le, if_true]
    rw [← hG, sub_self, zero_div, sub_zero]
  rw [show (256 : ℕ) = 255 + 1 from rfl, sum_range_succ', h0, add_sub_cancel_right, sum_congr rfl fun j _ => hlev (j + 1), sum_comm, sum_div]
  refine sum_congr rfl fun k hk => ?_
  rw [level_sum (ls k) (hle k (mem_range.1 hk)), div_mul_eq_mul_div, sum_mul]
  congr 1
  refine sum_congr rfl fun j _ => ?_
  split <;> ring

/-- The same of pixels in any order, sorted by a bijection. -/
theorem loss_sorted {N : ℕ} (fg : Fin N → ℝ) (lev : Fin N → ℕ) (σ : Fin N → Fin N) (hσ : Function.Bijective σ)
    (hd : ∀ a b : Fin N, a ≤ b → lev (σ b) ≤ lev (σ a)) (hle : ∀ q, lev q ≤ 255) (hfg : ∀ q, fg q = 0 ∨ fg q = 1)
    (G : ℝ) (hG : G = ∑ q, fg q) (hG1 : 1 ≤ G) (fs : ℕ → ℝ) (hfs : ∀ k : Fin N, fs k = fg (σ k)) (hfs0 : ∀ k, N ≤ k → fs k = 0) :
    ∑ k : Fin N, ((lev (σ k) : ℝ) / 255) * (jac G fs (k + 1) - jac G fs k)
      = ((∑ j : Fin 256, (1 - (G - ∑ q, (if j.val ≤ lev q then fg q else 0))
          / max (G + ∑ q, (if j.val ≤ lev q then 1 - fg q else 0)) 1)) - 1) / 255 := by
  let ls : ℕ → ℕ := fun k => if h : k < N then lev (σ ⟨k, h⟩) else 0
  have hls (k : Fin N) : ls k = lev (σ k) := dif_pos k.isLt
  have swap (f : Fin N → ℝ) : ∑ k : Fin N, f (σ k) = ∑ q, f q := Function.Bijective.sum_comp hσ f
  have h := loss_levels N fs ls (fun a b hab hb => by
      rw [show ls b = lev (σ ⟨b, hb⟩) from dif_pos hb, show ls a = lev (σ ⟨a, hab.trans_lt hb⟩) from dif_pos (hab.trans_lt hb)]
      exact hd _ _ hab)
    (fun k hk => by rw [show ls k = lev (σ ⟨k, hk⟩) from dif_pos hk]; exact hle _)
    (fun k => by
      by_cases hk : k < N
      · rw [hfs ⟨k, hk⟩]; exact hfg _
      · exact .inl (hfs0 k (not_lt.1 hk)))
    G (by rw [hG, sum_range, ← swap]; exact sum_congr rfl fun k _ => (hfs k).symm) hG1
  rw [sum_range] at h
  simp only [hls] at h
  rw [h, sum_range]
  congr 2
  refine sum_congr rfl fun j _ => ?_
  rw [sum_range, sum_range, ← swap fun q => if j.val ≤ lev q then fg q else 0, ← swap fun q => if j.val ≤ lev q then 1 - fg q else 0]
  simp only [hls, hfs]

end Cert.Proof.Lovasz
-- ==== Proof.RefLoss.lean ====
/-
  The reference from the negated errors on: the sort, the running sums, the Jaccard losses and their differences, the sum,
  the mean over the classes present and over the images, each over the reals.
-/
module

public import proofs.«01_k».proof.Proof.RefOps
public import proofs.«01_k».proof.Proof.Lovasz

@[expose] public section

noncomputable section

namespace Cert.Proof.Ref

open Cert.ReferenceIdeal Cert.ReferenceIdeal.Gen Cert.Proof.Hist Cert.Proof.FinVal Cert.Proof.Lovasz
open Idealize.ShloMosaic
open Idealize.ShloMosaic.ValueIdx

/-! ## The stages -/

abbrev V3 : Type := FVec Ideal S4x19x262144 .f32
abbrev V2 : Type := FVec Ideal S4x19 .f32

def keys (N F : V3) : V3 := (Host.sort2 S4x19x262144 2 comparator_f32_f32_d2 N F).1
def vals (N F : V3) : V3 := (Host.sort2 S4x19x262144 2 comparator_f32_f32_d2 N F).2

def totV (x : V3) : V2 := Host.reduceAdd x (constant S_ .f32 0x00000000#32) reducesTo_S4x19x262144_S4x19_d2 h_S_

def cumV (x : V3) : V3 :=
  Host.reduceWindowAdd ![1, 1, 262144] ![1, 1, 1] ![0, 0, 262143] ![0, 0, 0] x
    (broadcastInDim S_ ![] bcast_S_S_ (constant S_ .f32 0x00000000#32) : FVec Ideal S_ .f32)
    reduceWindows_S4x19x262144_S4x19x262144_w1s1p0_0_w1s1p0_0_w262144s1p262143_0 h_S_

def wide (v : V2) : V3 :=
  broadcastInDim S4x19x262144 ![0, 1, 2] bcast_S4x19x1_S4x19x262144_0_1_2 (broadcastInDim S4x19x1 ![0, 1] bcast_S4x19_S4x19x1_0_1 v)

def jacV (s : V3) : V3 :=
  subf one (Host.divf (subf (wide (totV s)) (cumV s)) (addf (wide (totV s)) (cumV (subf one s))))

def gradV (j : V3) : V3 :=
  Value.fn_main_v48 (F := Ideal) (extractStridedSlice S4x19x1 ![0, 0, 0] j slices_S4x19x262144_S4x19x1_0_0_0)
    (subf (extractStridedSlice S4x19x262143 ![0, 0, 1] j slices_S4x19x262144_S4x19x262143_0_0_1 : FVec Ideal S4x19x262143 .f32)
      (extractStridedSlice S4x19x262143 ![0, 0, 0] j slices_S4x19x262144_S4x19x262143_0_0_0))

def lossV (N F : V3) : V2 := totV (mulf (Host.negf (keys N F)) (gradV (jacV (vals N F))))

def presV (F : V3) : V2 := uitofp .f32 (cmpf .ogt (totV F) (broadcastInDim S4x19 ![] bcast_S_S4x19 (constant S_ .f32 0x00000000#32)))

def clsSum (v : V2) : FVec Ideal S4 .f32 := Host.reduceAdd v (constant S_ .f32 0x00000000#32) reducesTo_S4x19_S4_d1 h_S_

def imgV (N F : V3) : FVec Ideal S4 .f32 :=
  Host.divf (clsSum (mulf (lossV N F) (presV F)))
    (maximumf (clsSum (presV F)) (broadcastInDim S4 ![] bcast_S_S4 (constant S_ .f32 0x3F800000#32)))

def resV (N F : V3) : FVec Ideal S_ .f32 :=
  Host.divf (Host.reduceAdd (imgV N F) (constant S_ .f32 0x00000000#32) reducesTo_S4_S_d0 h_S_) (constant S_ .f32 0x40800000#32)

/-! ## Their values -/

theorem red2 : S4x19x262144.Reduces [2] S4x19 := by decide
theorem red2' : S4x19.Reduces [1] S4 := by decide

theorem tot_at (x : V3) (b : Fin 4) (c : Fin 19) (g : Fin 262144 → ℝ) (hg : ∀ q, x (ix3 b c q) = ((g q : ℝ) : EReal)) :
    totV x (ix2 b c) = ((∑ q, g q : ℝ) : EReal) := by
  unfold totV
  show Ideal.hostReduceAdd _ x (FloatOps.ofBits .f32 0x00000000#32 : Ideal .f32) (ix2 b c) = _
  rw [Ideal.hostReduceAdd_single _ red2, zero_word, EReal.coe_zero, zero_add, coe_sum]
  refine Finset.sum_congr rfl fun (k : Fin 262144) _ => Eq.trans (congrArg x (funext fun a => ?_)) (hg k)
  match a with
  | ⟨0, _⟩ => rfl
  | ⟨1, _⟩ => rfl
  | ⟨2, _⟩ => rfl

theorem cls_at (v : V2) (b : Fin 4) (g : Fin 19 → ℝ) (hg : ∀ c, v (ix2 b c) = ((g c : ℝ) : EReal)) :
    clsSum v (ix1 b) = ((∑ c, g c : ℝ) : EReal) := by
  unfold clsSum
  show Ideal.hostReduceAdd _ v (FloatOps.ofBits .f32 0x00000000#32 : Ideal .f32) (ix1 b) = _
  rw [Ideal.hostReduceAdd_single _ red2', zero_word, EReal.coe_zero, zero_add, coe_sum]
  refine Finset.sum_congr rfl fun (k : Fin 19) _ => Eq.trans (congrArg v (funext fun a => ?_)) (hg k)
  match a with
  | ⟨0, _⟩ => rfl
  | ⟨1, _⟩ => rfl

theorem cum_at (x : V3) (b : Fin 4) (c : Fin 19) (g : ℕ → ℝ) (hg : ∀ q : Fin 262144, x (ix3 b c q) = ((g q.val : ℝ) : EReal)) (k : Fin 262144) :
    cumV x (ix3 b c k) = ((∑ i ∈ Finset.range (k.val + 1), g i : ℝ) : EReal) := by
  unfold cumV
  exact cumsum_at (A := 4) (C := 19) (M := 262143) x _ _ _ (fun y => by rw [const_at, zero_word, EReal.coe_zero]) b c g hg k

theorem wide_at (v : V2) (b : Fin 4) (c : Fin 19) (k : Fin 262144) : wide v (ix3 b c k) = v (ix2 b c) := by
  unfold wide
  rw [broadcastInDim_apply _ _ _ _ (ix3 b c (0 : Fin 1)) (fun a => by
      match a with
      | ⟨0, _⟩ => rfl
      | ⟨1, _⟩ => rfl
      | ⟨2, _⟩ => rfl),
    broadcastInDim_apply _ _ _ _ (ix2 b c) (fun a => by
      match a with
      | ⟨0, _⟩ => rfl
      | ⟨1, _⟩ => rfl)]

theorem one_at (y : S4x19x262144.Idx) : one y = ((1 : ℝ) : EReal) := by
  unfold one
  rw [const_at, one_word]

theorem jac_at (s : V3) (b : Fin 4) (c : Fin 19) (fs : ℕ → ℝ) (G : ℝ) (hs : ∀ q : Fin 262144, s (ix3 b c q) = ((fs q.val : ℝ) : EReal))
    (hG : G = ∑ q : Fin 262144, fs q.val) (k : Fin 262144) (hp : 0 < G + ∑ i ∈ Finset.range (k.val + 1), (1 - fs i)) :
    jacV s (ix3 b c k) = ((jac G fs (k.val + 1) : ℝ) : EReal) := by
  unfold jacV
  rw [sub_at, div_at, sub_at, add_at, wide_at, one_at, tot_at s b c _ hs, ← hG, cum_at s b c fs hs,
    cum_at _ b c (fun i => 1 - fs i) (fun q => by rw [sub_at, one_at, hs, ← EReal.coe_sub]),
    ← EReal.coe_sub, ← EReal.coe_add, div_re hp.ne', ← EReal.coe_sub]
  rfl

theorem grad_at (j : V3) (b : Fin 4) (c : Fin 19) (J : ℕ → ℝ) (hj : ∀ q : Fin 262144, j (ix3 b c q) = ((J (q.val + 1) : ℝ) : EReal)) (k : Fin 262144) :
    gradV j (ix3 b c k) = ((J (k.val + 1) - (if k.val = 0 then 0 else J k.val) : ℝ) : EReal) := by
  have hk := k.isLt
  unfold gradV Value.fn_main_v48
  by_cases h0 : k.val = 0
  · rw [if_pos h0, sub_zero]
    refine (concatenate_pair_apply_left (t := S4x19x262144) (s₁ := S4x19x1) (s₂ := S4x19x262143) (2 : Fin 3) _ _ _ (ix3 b c k) rfl (ix3 b c (0 : Fin 1)) (fun a => ?_)).trans ?_
    · match a with
      | ⟨0, _⟩ => rfl
      | ⟨1, _⟩ => rfl
      | ⟨2, _⟩ => exact h0.symm
    · rw [extractStridedSlice_apply _ _ _ _ (ix3 b c k) (fun a => by
        match a with
        | ⟨0, _⟩ => exact (Nat.zero_add _).symm
        | ⟨1, _⟩ => exact (Nat.zero_add _).symm
        | ⟨2, _⟩ => exact h0), hj]
  · rw [if_neg h0]
    refine (concatenate_pair_apply_right (t := S4x19x262144) (s₁ := S4x19x1) (s₂ := S4x19x262143) (2 : Fin 3) _ _ _ (ix3 b c k) rfl rfl
      (ix3 b c (⟨k.val - 1, by omega⟩ : Fin 262143)) (fun a ha => ?_) ?_).trans ?_
    · match a with
      | ⟨0, _⟩ => rfl
      | ⟨1, _⟩ => rfl
      | ⟨2, _⟩ => exact absurd rfl ha
    · show k.val - 1 + 1 = k.val
      omega
    · rw [sub_at,
        extractStridedSlice_apply _ _ _ _ (ix3 b c k) (fun a => by
          match a with
          | ⟨0, _⟩ => exact (Nat.zero_add _).symm
          | ⟨1, _⟩ => exact (Nat.zero_add _).symm
          | ⟨2, _⟩ => show k.val = 1 + (k.val - 1); omega),
        extractStridedSlice_apply _ _ _ _ (ix3 b c (⟨k.val - 1, by omega⟩ : Fin 262144)) (fun a => by
          match a with
          | ⟨0, _⟩ => exact (Nat.zero_add _).symm
          | ⟨1, _⟩ => exact (Nat.zero_add _).symm
          | ⟨2, _⟩ => show k.val - 1 = 0 + (k.val - 1); omega), hj, hj, ← EReal.coe_sub]
      show ((J (k.val + 1) - J (k.val - 1 + 1) : ℝ) : EReal) = _
      rw [show k.val - 1 + 1 = k.val by omega]

end Cert.Proof.Ref
-- ==== Proof.RefVal.lean ====
/-
  The reference's result: the mean of the losses from the pixels' levels, which is the kernel's number.
-/
module

public import proofs.«01_k».proof.Proof.RefLoss

@[expose] public section

noncomputable section

namespace Cert.Proof.Ref

open Cert.ReferenceIdeal Cert.ReferenceIdeal.Gen Cert.Proof.Hist Cert.Proof.FinVal Cert.Proof.Lovasz
open Idealize.ShloMosaic
open Idealize.ShloMosaic.ValueIdx

section

variable {N F : V3} (fg : Fin 4 → Fin 19 → Fin 262144 → ℝ) (lev : Fin 4 → Fin 19 → Fin 262144 → ℕ)
  (hF : ∀ b c q, F (ix3 b c q) = ((fg b c q : ℝ) : EReal))
  (hN : ∀ b c q, N (ix3 b c q) = ((-((lev b c q : ℝ) / 255) : ℝ) : EReal))
  (hfg : ∀ b c q, fg b c q = 0 ∨ fg b c q = 1) (hle : ∀ b c q, lev b c q ≤ 255)

variable (N F) in
/-- The order of the pixels of a class after the sort. -/
def ord (b : Fin 4) (c : Fin 19) : Fin 262144 → Fin 262144 := order (A := 4) (C := 19) (comparator_f32_f32_d2 (F := Ideal)) N F b c

variable (N F) in
theorem ord_bijective (b : Fin 4) (c : Fin 19) : Function.Bijective (ord N F b c) := order_bijective (A := 4) (C := 19) _ N F b c

include hN in
theorem ord_anti (b : Fin 4) (c : Fin 19) (i j : Fin 262144) (h : i ≤ j) : lev b c (ord N F b c j) ≤ lev b c (ord N F b c i) := by
  have := order_mono (A := 4) (C := 19) (comparator_f32_f32_d2 (F := Ideal)) N F b c comparator_re (fun q => -((lev b c q : ℝ) / 255)) (hN b c) h
  have h2 : (lev b c (ord N F b c j) : ℝ) / 255 ≤ (lev b c (ord N F b c i) : ℝ) / 255 := neg_le_neg_iff.1 this
  rw [div_le_div_iff_of_pos_right (by norm_num)] at h2
  exact_mod_cast h2

variable (N F) in
/-- Whether the pixel at place `k` of the order is of the class. -/
def fgs (b : Fin 4) (c : Fin 19) (k : ℕ) : ℝ := if h : k < 262144 then fg b c (ord N F b c ⟨k, h⟩) else 0

theorem fgs_fin (b : Fin 4) (c : Fin 19) (k : Fin 262144) : fgs N F fg b c k.val = fg b c (ord N F b c k) := dif_pos k.isLt

include hfg in
theorem fgs_bit (b : Fin 4) (c : Fin 19) (k : ℕ) : 0 ≤ fgs N F fg b c k ∧ fgs N F fg b c k ≤ 1 := by
  unfold fgs
  split
  · rcases hfg b c (ord N F b c ⟨k, ‹_›⟩) with h | h <;> rw [h] <;> norm_num
  · norm_num

theorem fgs_total (b : Fin 4) (c : Fin 19) : ∑ q, fg b c q = ∑ k : Fin 262144, fgs N F fg b c k.val := by
  simp only [fgs_fin]
  exact ((ord_bijective N F b c).sum_comp (fun q => fg b c q)).symm

include hfg in
theorem union_pos (b : Fin 4) (c : Fin 19) (k : Fin 262144) :
    0 < ∑ q, fg b c q + ∑ i ∈ Finset.range (k.val + 1), (1 - fgs N F fg b c i) := by
  rw [fgs_total (N := N) (F := F), ← Finset.sum_range (fun i => fgs N F fg b c i), Finset.sum_sub_distrib]
  have h1 : ∑ i ∈ Finset.range (k.val + 1), fgs N F fg b c i ≤ ∑ i ∈ Finset.range 262144, fgs N F fg b c i :=
    Finset.sum_le_sum_of_subset_of_nonneg (Finset.range_subset_range.2 k.isLt) (fun i _ _ => (fgs_bit fg hfg b c i).1)
  have h2 : ∑ _i ∈ Finset.range (k.val + 1), (1 : ℝ) = (k.val : ℝ) + 1 := by simp
  have h3 : (0 : ℝ) ≤ k.val := Nat.cast_nonneg _
  rw [h2]
  linarith

variable (N F) in
/-- The loss of a class as the reference sums it over the sorted pixels. -/
def lossR (b : Fin 4) (c : Fin 19) : ℝ :=
  ∑ k : Fin 262144, (lev b c (ord N F b c k) : ℝ) / 255 *
    (jac (∑ q, fg b c q) (fgs N F fg b c) (k.val + 1) - (if k.val = 0 then 0 else jac (∑ q, fg b c q) (fgs N F fg b c) k.val))

theorem keys_at (b : Fin 4) (c : Fin 19) (k : Fin 262144) : keys N F (ix3 b c k) = N (ix3 b c (ord N F b c k)) :=
  sort_fst (A := 4) (C := 19) _ N F b c k

theorem vals_at (b : Fin 4) (c : Fin 19) (k : Fin 262144) : vals N F (ix3 b c k) = F (ix3 b c (ord N F b c k)) :=
  sort_snd (A := 4) (C := 19) _ N F b c k

include hF hN hfg in
theorem loss_at (b : Fin 4) (c : Fin 19) : lossV N F (ix2 b c) = ((lossR N F fg lev b c : ℝ) : EReal) := by
  unfold lossV
  refine tot_at _ b c _ fun k => ?_
  rw [mul_at, neg_at, keys_at, hN, neg_re, neg_neg,
    grad_at _ b c (jac (∑ q, fg b c q) (fgs N F fg b c)) (fun q => jac_at _ b c _ _
      (fun q => by rw [vals_at, hF, fgs_fin]) (fgs_total fg b c) q (union_pos fg hfg b c q)),
    ← EReal.coe_mul]

theorem ogt_at {s : Shape} (u v : FVec Ideal s .f32) (y : s.Idx) :
    cmpf .ogt u v y = BitVec.ofBool (decide ((v y : EReal) < u y)) := rfl

include hF in
theorem pres_at (b : Fin 4) (c : Fin 19) : presV F (ix2 b c) = (((if 0 < ∑ q, fg b c q then 1 else 0 : ℝ)) : EReal) := by
  unfold presV
  rw [uitofp_at, ogt_at, ubit_re, tot_at F b c _ (hF b c), const_at, zero_word]
  exact congrArg _ (if_congr EReal.coe_lt_coe_iff rfl rfl)

/-- The images. -/
def idx1 : S4.Idx ≃ Fin 4 where
  toFun i := i (0 : Fin 1)
  invFun b := ix1 b
  left_inv i := funext fun a => match a with
    | ⟨0, _⟩ => rfl
  right_inv _ := rfl

/-- The mean of real losses over the classes present and the images. -/
theorem res_at (L P : Fin 4 → Fin 19 → ℝ) (hL : ∀ b c, lossV N F (ix2 b c) = ((L b c : ℝ) : EReal))
    (hP : ∀ b c, presV F (ix2 b c) = ((P b c : ℝ) : EReal)) (j : S_.Idx) : resV N F j = ((mean L P : ℝ) : EReal) := by
  have hi (b : Fin 4) : imgV N F (ix1 b) = (((∑ c, L b c * P b c) / max (∑ c, P b c) 1 : ℝ) : EReal) := by
    unfold imgV
    rw [div_at, max_at, cls_at _ b (fun c => L b c * P b c) (fun c => by rw [mul_at, hL, hP, ← EReal.coe_mul]), cls_at _ b _ (hP b),
      const_at, one_word, max_re, div_re (lt_of_lt_of_le one_pos (le_max_right _ _)).ne']
  unfold resV
  rw [div_at]
  show Ideal.div (Ideal.hostReduceAdd _ (imgV N F) (FloatOps.ofBits .f32 0x00000000#32 : Ideal .f32) j) (FloatOps.ofBits .f32 0x40800000#32 : Ideal .f32) = _
  rw [Ideal.hostReduceAdd_total _ (fun b => b.elim0), zero_word, EReal.coe_zero, zero_add, word_4]
  have e : (∑ i : S4.Idx, imgV N F i) = ((∑ b : Fin 4, (∑ c, L b c * P b c) / max (∑ c, P b c) 1 : ℝ) : EReal) := by
    rw [coe_sum]
    exact Fintype.sum_equiv idx1 _ _ fun i => (congrArg (imgV N F) (idx1.symm_apply_apply i).symm).trans (hi (idx1 i))
  refine (congrArg (fun x => Ideal.div x _) e).trans ?_
  rw [div_re (by norm_num)]
  rfl

include hN hfg hle in
/-- Where the class is present the sorted sum is the sum over the levels. -/
theorem lossR_eq (b : Fin 4) (c : Fin 19) (h : 0 < ∑ q, fg b c q) : lossR N F fg lev b c =
    ((∑ j : Fin 256, (1 - (∑ q, fg b c q - ∑ q, if j.val ≤ lev b c q then fg b c q else 0)
      / max (∑ q, fg b c q + ∑ q, if j.val ≤ lev b c q then 1 - fg b c q else 0) 1)) - 1) / 255 := by
  have h1 : 1 ≤ ∑ q, fg b c q := by
    obtain ⟨q, -, hq⟩ := Finset.exists_lt_of_sum_lt (s := Finset.univ) (f := fun _ => (0 : ℝ)) (g := fun q => fg b c q) (by simpa using h)
    have e : fg b c q = 1 := (hfg b c q).resolve_left hq.ne'
    have hs := Finset.single_le_sum (f := fun q => fg b c q) (s := Finset.univ)
      (fun q _ => by rcases hfg b c q with h | h <;> simp [h]) (Finset.mem_univ q)
    exact e.symm.le.trans hs
  rw [← loss_sorted (fg b c) (lev b c) (ord N F b c) (ord_bijective N F b c) (ord_anti lev hN b c) (hle b c) (hfg b c) _ rfl h1
    (fgs N F fg b c) (fgs_fin fg b c) (fun k hk => dif_neg (not_lt.2 hk))]
  unfold lossR
  refine Finset.sum_congr rfl fun k _ => ?_
  by_cases hk : k.val = 0
  · rw [if_pos hk, hk, jac_zero h1]
  · rw [if_neg hk]

end

section

variable {A : FVec Ideal S4x19x512x512 .f32} {T : IVec S4x512x512 32} (hA : ∀ i, ∃ r : ℝ, A i = (r : EReal))
  {B : Vec Ideal Cert.KernelIdeal.S4x262144 .i32} (hB : ∀ y, ((B : IVec Cert.KernelIdeal.S4x262144 32) y).toNat < 19)
  (hT : ∀ (b : Fin 4) (q : Fin 262144), (B : IVec Cert.KernelIdeal.S4x262144 32) (ix2 b q) = T (ix3 b (row q) (col q)))

include hA hT in
/-- The reference's result is the kernel's number. -/
theorem ref_at (j : S_.Idx) : resV (negV A T) (fgV T) j = ((mean (Spec.lossS (XR A) hB) (Spec.presS hB) : ℝ) : EReal) := by
  have hF := fg_at hB hT
  have hN := neg_level hA hB hT
  have hfg := Spec.fg_bit hB
  rw [res_at _ _ (loss_at (Spec.fg hB) (Spec.lev (XR A) hB) hF hN hfg) (pres_at (Spec.fg hB) hF)]
  refine congrArg (fun r : ℝ => (r : EReal)) ?_
  unfold mean
  refine congrArg (fun r : ℝ => r / 4) (Finset.sum_congr rfl fun b _ => ?_)
  have e (c : Fin 19) : lossR (negV A T) (fgV T) (Spec.fg hB) (Spec.lev (XR A) hB) b c * (if 0 < ∑ q, Spec.fg hB b c q then 1 else 0)
      = Spec.lossS (XR A) hB b c * Spec.presS hB b c := by
    unfold Spec.presS Spec.gts
    by_cases h : 0 < ∑ q, Spec.fg hB b c q
    · rw [if_pos h, lossR_eq _ _ hN hfg (Spec.lev_le (XR A) hB) b c h]
      rfl
    · rw [if_neg h, mul_zero, mul_zero]
  rw [Finset.sum_congr rfl fun c _ => e c]
  rfl

end

end Cert.Proof.Ref
-- ==== Proof.Final.lean ====
/-
  The kernel's result and the reference's, from equal arguments: the same number.
-/
module

public import proofs.«01_k».proof.Proof.Full
public import proofs.«01_k».proof.Proof.RefVal

@[expose] public section

noncomputable section

namespace Cert.Proof

open Idealize.ShloMosaic Idealize.SL.Sem
open Cert.Proof.Main Cert.Proof.Ref Cert.Proof.FinVal
open Idealize.ShloMosaic.ValueIdx

theorem cast_const {α : Type} {s t : Shape} (x : s.Idx → α) (h : s.ShapeCasts t) {v : α} (hx : ∀ i, x i = v) (j : t.Idx) : shapeCast t x h j = v := by
  unfold shapeCast
  exact hx _

section

open Cert.KernelIdeal Cert.KernelIdeal.Gen

variable {m : (ℓ : Loc nD τ sig) → Buf (Elt Ideal) ℓ}

theorem labels_flat (h : Labels m) (d : Dev nD) (y : S4x262144.Idx) : ((BV m d : IVec S4x262144 32) y).toNat < 19 := h d _

theorem kernel_at (h : Labels m) (d : Dev nD) (j : S_.Idx) :
    (RV m d : FVec Ideal S_ .f32) j = ((mean (Spec.lossS (XV m d) (labels_flat h d)) (Spec.presS (labels_flat h d)) : ℝ) : EReal) := by
  unfold RV
  exact cast_const _ _ (fun i => Spec.fin_at (XV m d) (labels_flat h d) i) j

theorem pixel_flat (d : Dev nD) (b : Fin 4) (q : Fin 262144) :
    (BV m d : IVec S4x262144 32) (ix2 b q) = (m (tLoc d) : IVec S4x512x512 32) (ix3 b (row q) (col q)) :=
  shapeCast_apply _ _ _ _ (by
    refine (Shape.rowMajor_val_three _).trans ((?_ : _ = _).trans (Shape.rowMajor_val_two _).symm)
    show (b.val * 512 + q.val / 512) * 512 + q.val % 512 = b.val * 262144 + q.val
    omega)

end

section

open Cert.ReferenceIdeal Cert.ReferenceIdeal.Gen

theorem stages (m : (ℓ : Loc nD τ sig) → Buf (Elt Ideal) ℓ) (c : Dev nD) (A : FVec Ideal S4x19x512x512 .f32) (T : IVec S4x512x512 32)
    (hA : m ((c.tc : Thread nD τ).loc main_arg0) = A) (hT : m ((c.tc : Thread nD τ).loc main_arg1) = T) :
    Value.res_main_v62 m c = resV (negV A T) (fgV T) := by
  subst hA hT
  unfold Value.res_main_v62 resV imgV presV clsSum lossV gradV jacV wide cumV totV keys vals negV fgV probV sumV expV spread maxV one255 half one
  rfl

end

theorem same_result {m : (ℓ : Loc Cert.KernelIdeal.nD Cert.KernelIdeal.τ Cert.KernelIdeal.sig) → Buf (Elt Ideal) ℓ} (hf : Finite m) (hl : Labels m)
    (m' : (ℓ : Loc Cert.ReferenceIdeal.nD Cert.ReferenceIdeal.τ Cert.ReferenceIdeal.sig) → Buf (Elt Ideal) ℓ) (d : Dev Cert.KernelIdeal.nD)
    (e0 : m' ((d.tc : Thread Cert.ReferenceIdeal.nD Cert.ReferenceIdeal.τ).loc Cert.ReferenceIdeal.main_arg0) = m (aLoc d))
    (e1 : m' ((d.tc : Thread Cert.ReferenceIdeal.nD Cert.ReferenceIdeal.τ).loc Cert.ReferenceIdeal.main_arg1) = m (tLoc d)) :
    Cert.ReferenceIdeal.Value.res_main_v62 m' d = RV m d := by
  rw [stages m' d _ _ e0 e1]
  funext j
  rw [kernel_at hl d]
  exact ref_at (hf d) (labels_flat hl d) (fun b q => pixel_flat d b q) j

theorem equal_results : Cert.algebraic_KernelIdeal_ReferenceIdeal_pre_finite_and_labels_in_range (hKernelIdeal := Cert.KernelIdeal.Gen.facts)
    (hReferenceIdeal := Cert.ReferenceIdeal.Gen.facts) (hPre_finite_and_labels_in_range := Cert.Pre_finite_and_labels_in_range.Gen.facts) := by
  intro m g m' g' h hm
  obtain ⟨hf, hl⟩ := all_of_pre h
  refine ⟨fun c => RV m c, ?_, ?_⟩
  · exact (θ_run _ _ _).mono (fun _ hr c => ⟨(hr.1 c).2.2, (hr.1 c).1, (hr.1 c).2.1⟩) (run_kernel hl g)
  · exact (θ_run _ _ _).mono (fun _ hr c => ⟨(hr c).1.trans (same_result hf hl m' c (hm c).1 (hm c).2), (hr c).2⟩)
      (Cert.ReferenceIdeal.Value.run m' g')

end Cert.Proof

end
-- ==== Proof.lean ====
/-
  The proof of `Cert.Claim`: the frames (Proof/Frames.lean, Proof/Full.lean) and the equality of the two results
  (Proof/Final.lean).
-/
module

public import proofs.«01_k».proof.Defs
public import proofs.«01_k».proof.Proof.Full
public import proofs.«01_k».proof.Proof.Final
public import proofs.«01_k».proof.Proof.Gen.Pre_labels_in_range
public import proofs.«01_k».proof.Proof.Gen.Pre_finite_and_labels_in_range

@[expose] public section

noncomputable section

namespace Cert.Proof

theorem claim : Cert.Claim :=
  ⟨Cert.KernelIdeal.Gen.facts, Cert.ReferenceIdeal.Gen.facts, Cert.Pre_labels_in_range.Gen.facts, Cert.Pre_finite_and_labels_in_range.Gen.facts,
    frame_k, frame_k', frame_r, frame_r', equal_results⟩

end Cert.Proof

end
